-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x16x512x64 : Shape := ⟨4, ![32, 16, 512, 64]⟩
abbrev S_ : Shape := ⟨0, ![]⟩
abbrev S1 : Shape := ⟨1, ![1]⟩
abbrev S2 : Shape := ⟨1, ![2]⟩
abbrev S1x1x1 : Shape := ⟨3, ![1, 1, 1]⟩
abbrev S32x16x512 : Shape := ⟨3, ![32, 16, 512]⟩
abbrev S512x512 : Shape := ⟨2, ![512, 512]⟩
abbrev S32x16x64x512 : Shape := ⟨4, ![32, 16, 64, 512]⟩
abbrev S512x64x512 : Shape := ⟨3, ![512, 64, 512]⟩
abbrev S6x64x64x512 : Shape := ⟨4, ![6, 64, 64, 512]⟩
abbrev S6 : Shape := ⟨1, ![6]⟩
abbrev S1x64x64x512 : Shape := ⟨4, ![1, 64, 64, 512]⟩
abbrev S64x64x512 : Shape := ⟨3, ![64, 64, 512]⟩
abbrev S512x1 : Shape := ⟨2, ![512, 1]⟩
abbrev S512 : Shape := ⟨1, ![512]⟩
abbrev S1x1x64x512 : Shape := ⟨4, ![1, 1, 64, 512]⟩
abbrev S64x512 : Shape := ⟨2, ![64, 512]⟩
abbrev S1x512 : Shape := ⟨2, ![1, 512]⟩

abbrev nBuf : Space → Nat
  | .hbm => 315
  | .vmem => 4
  | .smem => 0
  | _ => 0

abbrev hbmTy0_0 (i : Nat) : BufTy := match i % 128 with
  | 0 => ⟨S32x16x512x64, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1x1, .f32⟩
  | 16 => ⟨S1x1x1, .f32⟩
  | 17 => ⟨S1, .i32⟩
  | 18 => ⟨S_, .i32⟩
  | 19 => ⟨S1, .i32⟩
  | 20 => ⟨S_, .i32⟩
  | 21 => ⟨S32x16x512, .i64⟩
  | 22 => ⟨S32x16x512, .i64⟩
  | 23 => ⟨S32x16x512, .i64⟩
  | 24 => ⟨S_, .i64⟩
  | 25 => ⟨S32x16x512, .i64⟩
  | 26 => ⟨S32x16x512, .i64⟩
  | 27 => ⟨S_, .i64⟩
  | 28 => ⟨S32x16x512, .i64⟩
  | 29 => ⟨S32x16x512, .i64⟩
  | 30 => ⟨S_, .i64⟩
  | 31 => ⟨S32x16x512, .i64⟩
  | 32 => ⟨S32x16x512, .i64⟩
  | 33 => ⟨S32x16x512, .i64⟩
  | 34 => ⟨S32x16x512, .i64⟩
  | 35 => ⟨S_, .i64⟩
  | 36 => ⟨S32x16x512, .i64⟩
  | 37 => ⟨S32x16x512, .i64⟩
  | 38 => ⟨S32x16x512, .i32⟩
  | 39 => ⟨S32x16x512, .i32⟩
  | 40 => ⟨S_, .i32⟩
  | 41 => ⟨S_, .i32⟩
  | 42 => ⟨S_, .i32⟩
  | 43 => ⟨S32x16x512, .i32⟩
  | 44 => ⟨S32x16x512, .i32⟩
  | 45 => ⟨S32x16x512, .i32⟩
  | 46 => ⟨S32x16x512, .i32⟩
  | 47 => ⟨S32x16x512, .i32⟩
  | 48 => ⟨S_, .i32⟩
  | 49 => ⟨S32x16x512, .i32⟩
  | 50 => ⟨S32x16x512, .i32⟩
  | 51 => ⟨S_, .i32⟩
  | 52 => ⟨S32x16x512, .i32⟩
  | 53 => ⟨S32x16x512, .i32⟩
  | 54 => ⟨S32x16x512, .i32⟩
  | 55 => ⟨S32x16x512, .i32⟩
  | 56 => ⟨S32x16x512, .i32⟩
  | 57 => ⟨S_, .i32⟩
  | 58 => ⟨S32x16x512, .i32⟩
  | 59 => ⟨S32x16x512, .i32⟩
  | 60 => ⟨S_, .i32⟩
  | 61 => ⟨S32x16x512, .i32⟩
  | 62 => ⟨S32x16x512, .i32⟩
  | 63 => ⟨S32x16x512, .i32⟩
  | 64 => ⟨S32x16x512, .i32⟩
  | 65 => ⟨S32x16x512, .i32⟩
  | 66 => ⟨S_, .i32⟩
  | 67 => ⟨S32x16x512, .i32⟩
  | 68 => ⟨S32x16x512, .i32⟩
  | 69 => ⟨S_, .i32⟩
  | 70 => ⟨S32x16x512, .i32⟩
  | 71 => ⟨S32x16x512, .i32⟩
  | 72 => ⟨S32x16x512, .i32⟩
  | 73 => ⟨S32x16x512, .i32⟩
  | 74 => ⟨S32x16x512, .i32⟩
  | 75 => ⟨S_, .i32⟩
  | 76 => ⟨S32x16x512, .i32⟩
  | 77 => ⟨S32x16x512, .i32⟩
  | 78 => ⟨S_, .i32⟩
  | 79 => ⟨S32x16x512, .i32⟩
  | 80 => ⟨S32x16x512, .i32⟩
  | 81 => ⟨S32x16x512, .i32⟩
  | 82 => ⟨S32x16x512, .i32⟩
  | 83 => ⟨S32x16x512, .i32⟩
  | 84 => ⟨S32x16x512, .i32⟩
  | 85 => ⟨S32x16x512, .i32⟩
  | 86 => ⟨S32x16x512, .i32⟩
  | 87 => ⟨S_, .i32⟩
  | 88 => ⟨S32x16x512, .i32⟩
  | 89 => ⟨S32x16x512, .i32⟩
  | 90 => ⟨S32x16x512, .i32⟩
  | 91 => ⟨S_, .i32⟩
  | 92 => ⟨S32x16x512, .i32⟩
  | 93 => ⟨S32x16x512, .i32⟩
  | 94 => ⟨S_, .i32⟩
  | 95 => ⟨S32x16x512, .i32⟩
  | 96 => ⟨S32x16x512, .i32⟩
  | 97 => ⟨S32x16x512, .i32⟩
  | 98 => ⟨S32x16x512, .i32⟩
  | 99 => ⟨S32x16x512, .i32⟩
  | 100 => ⟨S_, .i32⟩
  | 101 => ⟨S32x16x512, .i32⟩
  | 102 => ⟨S32x16x512, .i32⟩
  | 103 => ⟨S_, .i32⟩
  | 104 => ⟨S32x16x512, .i32⟩
  | 105 => ⟨S32x16x512, .i32⟩
  | 106 => ⟨S32x16x512, .i32⟩
  | 107 => ⟨S32x16x512, .i32⟩
  | 108 => ⟨S32x16x512, .i32⟩
  | 109 => ⟨S_, .i32⟩
  | 110 => ⟨S32x16x512, .i32⟩
  | 111 => ⟨S32x16x512, .i32⟩
  | 112 => ⟨S_, .i32⟩
  | 113 => ⟨S32x16x512, .i32⟩
  | 114 => ⟨S32x16x512, .i32⟩
  | 115 => ⟨S32x16x512, .i32⟩
  | 116 => ⟨S32x16x512, .i32⟩
  | 117 => ⟨S32x16x512, .i32⟩
  | 118 => ⟨S_, .i32⟩
  | 119 => ⟨S32x16x512, .i32⟩
  | 120 => ⟨S32x16x512, .i32⟩
  | 121 => ⟨S_, .i32⟩
  | 122 => ⟨S32x16x512, .i32⟩
  | 123 => ⟨S32x16x512, .i32⟩
  | 124 => ⟨S32x16x512, .i32⟩
  | 125 => ⟨S32x16x512, .i32⟩
  | 126 => ⟨S32x16x512, .i32⟩
  | 127 => ⟨S32x16x512, .i32⟩
  | _ => ⟨S32x16x512x64, .f32⟩

abbrev hbmTy0_1 (i : Nat) : BufTy := match i % 128 with
  | 0 => ⟨S32x16x512, .i32⟩
  | 1 => ⟨S32x16x512, .i32⟩
  | 2 => ⟨S_, .i32⟩
  | 3 => ⟨S32x16x512, .i32⟩
  | 4 => ⟨S32x16x512, .i32⟩
  | 5 => ⟨S32x16x512, .i32⟩
  | 6 => ⟨S_, .i32⟩
  | 7 => ⟨S32x16x512, .i32⟩
  | 8 => ⟨S32x16x512, .i32⟩
  | 9 => ⟨S_, .i32⟩
  | 10 => ⟨S32x16x512, .i32⟩
  | 11 => ⟨S32x16x512, .i32⟩
  | 12 => ⟨S32x16x512, .i32⟩
  | 13 => ⟨S32x16x512, .i32⟩
  | 14 => ⟨S32x16x512, .i32⟩
  | 15 => ⟨S_, .i32⟩
  | 16 => ⟨S32x16x512, .i32⟩
  | 17 => ⟨S32x16x512, .i32⟩
  | 18 => ⟨S_, .i32⟩
  | 19 => ⟨S32x16x512, .i32⟩
  | 20 => ⟨S32x16x512, .i32⟩
  | 21 => ⟨S32x16x512, .i32⟩
  | 22 => ⟨S32x16x512, .i32⟩
  | 23 => ⟨S32x16x512, .i32⟩
  | 24 => ⟨S_, .i32⟩
  | 25 => ⟨S32x16x512, .i32⟩
  | 26 => ⟨S32x16x512, .i32⟩
  | 27 => ⟨S_, .i32⟩
  | 28 => ⟨S32x16x512, .i32⟩
  | 29 => ⟨S32x16x512, .i32⟩
  | 30 => ⟨S32x16x512, .i32⟩
  | 31 => ⟨S32x16x512, .i32⟩
  | 32 => ⟨S32x16x512, .i32⟩
  | 33 => ⟨S_, .i32⟩
  | 34 => ⟨S32x16x512, .i32⟩
  | 35 => ⟨S32x16x512, .i32⟩
  | 36 => ⟨S_, .i32⟩
  | 37 => ⟨S32x16x512, .i32⟩
  | 38 => ⟨S32x16x512, .i32⟩
  | 39 => ⟨S32x16x512, .i32⟩
  | 40 => ⟨S32x16x512, .i32⟩
  | 41 => ⟨S32x16x512, .i32⟩
  | 42 => ⟨S32x16x512, .i32⟩
  | 43 => ⟨S32x16x512, .i32⟩
  | 44 => ⟨S32x16x512, .i32⟩
  | 45 => ⟨S_, .i32⟩
  | 46 => ⟨S32x16x512, .i32⟩
  | 47 => ⟨S32x16x512, .i32⟩
  | 48 => ⟨S32x16x512, .i32⟩
  | 49 => ⟨S_, .i32⟩
  | 50 => ⟨S32x16x512, .i32⟩
  | 51 => ⟨S32x16x512, .i32⟩
  | 52 => ⟨S_, .i32⟩
  | 53 => ⟨S32x16x512, .i32⟩
  | 54 => ⟨S32x16x512, .i32⟩
  | 55 => ⟨S32x16x512, .i32⟩
  | 56 => ⟨S32x16x512, .i32⟩
  | 57 => ⟨S32x16x512, .i32⟩
  | 58 => ⟨S_, .i32⟩
  | 59 => ⟨S32x16x512, .i32⟩
  | 60 => ⟨S32x16x512, .i32⟩
  | 61 => ⟨S_, .i32⟩
  | 62 => ⟨S32x16x512, .i32⟩
  | 63 => ⟨S32x16x512, .i32⟩
  | 64 => ⟨S32x16x512, .i32⟩
  | 65 => ⟨S32x16x512, .i32⟩
  | 66 => ⟨S32x16x512, .i32⟩
  | 67 => ⟨S_, .i32⟩
  | 68 => ⟨S32x16x512, .i32⟩
  | 69 => ⟨S32x16x512, .i32⟩
  | 70 => ⟨S_, .i32⟩
  | 71 => ⟨S32x16x512, .i32⟩
  | 72 => ⟨S32x16x512, .i32⟩
  | 73 => ⟨S32x16x512, .i32⟩
  | 74 => ⟨S32x16x512, .i32⟩
  | 75 => ⟨S32x16x512, .i32⟩
  | 76 => ⟨S_, .i32⟩
  | 77 => ⟨S32x16x512, .i32⟩
  | 78 => ⟨S32x16x512, .i32⟩
  | 79 => ⟨S_, .i32⟩
  | 80 => ⟨S32x16x512, .i32⟩
  | 81 => ⟨S32x16x512, .i32⟩
  | 82 => ⟨S32x16x512, .i32⟩
  | 83 => ⟨S32x16x512, .i32⟩
  | 84 => ⟨S32x16x512, .i32⟩
  | 85 => ⟨S32x16x512, .i32⟩
  | 86 => ⟨S32x16x512, .i32⟩
  | 87 => ⟨S32x16x512, .i32⟩
  | 88 => ⟨S_, .i32⟩
  | 89 => ⟨S32x16x512, .i32⟩
  | 90 => ⟨S32x16x512, .i32⟩
  | 91 => ⟨S32x16x512, .i32⟩
  | 92 => ⟨S_, .i32⟩
  | 93 => ⟨S32x16x512, .i32⟩
  | 94 => ⟨S32x16x512, .i32⟩
  | 95 => ⟨S_, .i32⟩
  | 96 => ⟨S32x16x512, .i32⟩
  | 97 => ⟨S32x16x512, .i32⟩
  | 98 => ⟨S32x16x512, .i32⟩
  | 99 => ⟨S32x16x512, .i32⟩
  | 100 => ⟨S32x16x512, .i32⟩
  | 101 => ⟨S_, .i32⟩
  | 102 => ⟨S32x16x512, .i32⟩
  | 103 => ⟨S32x16x512, .i32⟩
  | 104 => ⟨S_, .i32⟩
  | 105 => ⟨S32x16x512, .i32⟩
  | 106 => ⟨S32x16x512, .i32⟩
  | 107 => ⟨S32x16x512, .i32⟩
  | 108 => ⟨S32x16x512, .i32⟩
  | 109 => ⟨S32x16x512, .i32⟩
  | 110 => ⟨S_, .i32⟩
  | 111 => ⟨S32x16x512, .i32⟩
  | 112 => ⟨S32x16x512, .i32⟩
  | 113 => ⟨S_, .i32⟩
  | 114 => ⟨S32x16x512, .i32⟩
  | 115 => ⟨S32x16x512, .i32⟩
  | 116 => ⟨S32x16x512, .i32⟩
  | 117 => ⟨S32x16x512, .i32⟩
  | 118 => ⟨S32x16x512, .i32⟩
  | 119 => ⟨S_, .i32⟩
  | 120 => ⟨S32x16x512, .i32⟩
  | 121 => ⟨S32x16x512, .i32⟩
  | 122 => ⟨S_, .i32⟩
  | 123 => ⟨S32x16x512, .i32⟩
  | 124 => ⟨S32x16x512, .i32⟩
  | 125 => ⟨S32x16x512, .i32⟩
  | 126 => ⟨S32x16x512, .i32⟩
  | 127 => ⟨S32x16x512, .i32⟩
  | _ => ⟨S32x16x512x64, .f32⟩

abbrev hbmTy0_2 (i : Nat) : BufTy := match i % 128 with
  | 0 => ⟨S32x16x512, .i32⟩
  | 1 => ⟨S32x16x512, .i32⟩
  | 2 => ⟨S32x16x512, .i32⟩
  | 3 => ⟨S_, .i32⟩
  | 4 => ⟨S32x16x512, .i32⟩
  | 5 => ⟨S32x16x512, .i32⟩
  | 6 => ⟨S32x16x512, .i32⟩
  | 7 => ⟨S_, .i32⟩
  | 8 => ⟨S32x16x512, .i32⟩
  | 9 => ⟨S32x16x512, .i32⟩
  | 10 => ⟨S_, .i32⟩
  | 11 => ⟨S32x16x512, .i32⟩
  | 12 => ⟨S32x16x512, .i32⟩
  | 13 => ⟨S32x16x512, .f32⟩
  | 14 => ⟨S_, .f32⟩
  | 15 => ⟨S32x16x512, .f32⟩
  | 16 => ⟨S32x16x512, .f32⟩
  | 17 => ⟨S1x1x1, .f32⟩
  | 18 => ⟨S32x16x512, .f32⟩
  | 19 => ⟨S32x16x512, .f32⟩
  | 20 => ⟨S32x16x512, .f32⟩
  | 21 => ⟨S32x16x512, .f32⟩
  | 22 => ⟨S32x16x512, .f32⟩
  | 23 => ⟨S32x16x512, .f32⟩
  | 24 => ⟨S_, .f32⟩
  | 25 => ⟨S32x16x512, .f32⟩
  | 26 => ⟨S32x16x512, .f32⟩
  | 27 => ⟨S32x16x512, .i32⟩
  | 28 => ⟨S32x16x512, .i32⟩
  | 29 => ⟨S_, .i32⟩
  | 30 => ⟨S32x16x512, .i32⟩
  | 31 => ⟨S32x16x512, .i1⟩
  | 32 => ⟨S_, .i32⟩
  | 33 => ⟨S32x16x512, .i32⟩
  | 34 => ⟨S32x16x512, .i32⟩
  | 35 => ⟨S_, .i32⟩
  | 36 => ⟨S32x16x512, .i32⟩
  | 37 => ⟨S32x16x512, .i32⟩
  | 38 => ⟨S_, .i32⟩
  | 39 => ⟨S32x16x512, .i32⟩
  | 40 => ⟨S32x16x512, .i32⟩
  | 41 => ⟨S32x16x512, .i32⟩
  | 42 => ⟨S32x16x512, .i32⟩
  | 43 => ⟨S_, .i32⟩
  | 44 => ⟨S_, .i32⟩
  | 45 => ⟨S32x16x512, .i32⟩
  | 46 => ⟨S32x16x512, .i32⟩
  | 47 => ⟨S512x512, .i32⟩
  | 48 => ⟨S32x16x64x512, .f32⟩
  | 49 => ⟨S512x64x512, .f32⟩
  | 50 => ⟨S512x64x512, .f32⟩
  | 51 => ⟨S512x512, .f32⟩
  | 52 => ⟨S32x16x64x512, .f32⟩
  | 53 => ⟨S32x16x512x64, .f32⟩
  | 54 => ⟨S32x16x512, .f32⟩
  | 55 => ⟨S_, .f32⟩
  | 56 => ⟨S32x16x512, .f32⟩
  | 57 => ⟨S32x16x512, .i1⟩
  | 58 => ⟨S32x16x512, .i1⟩
  | _ => ⟨S32x16x512x64, .f32⟩

abbrev hbmTy (i : Nat) : BufTy := match i / 128 with
  | 0 => hbmTy0_0 i
  | 1 => hbmTy0_1 i
  | 2 => hbmTy0_2 i
  | _ => ⟨S32x16x512x64, .f32⟩

abbrev bufTy : (tb : Table) → Fin (tcTables nBuf tb) → BufTy
  | .hbm, ⟨i, _⟩ => hbmTy i
  | .local _ .vmem, ⟨0, _⟩ => ⟨S512x512, .i32⟩
  | .local _ .vmem, ⟨1, _⟩ => ⟨S512x512, .f32⟩
  | .local _ .vmem, ⟨2, _⟩ => ⟨S512x512, .f32⟩
  | .local _ .vmem, ⟨3, _⟩ => ⟨S6x64x64x512, .f32⟩
  | _, _ => ⟨S32x16x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c : Ref sig .tc := ⟨.hbm, 24, rfl⟩
abbrev main_call0_v11 : Ref sig .tc := ⟨.hbm, 25, rfl⟩
abbrev main_call0_v12 : Ref sig .tc := ⟨.hbm, 26, rfl⟩
abbrev main_call0_c_0 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_c_2 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_call0_v0 : Ref sig .tc := ⟨.hbm, 40, rfl⟩
abbrev main_call0_call0_c : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_c_0 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_c_1 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_call0_v12 : Ref sig .tc := ⟨.hbm, 55, rfl⟩
abbrev main_call0_call0_v13 : Ref sig .tc := ⟨.hbm, 56, rfl⟩
abbrev main_call0_call0_c_2 : Ref sig .tc := ⟨.hbm, 57, rfl⟩
abbrev main_call0_call0_v14 : Ref sig .tc := ⟨.hbm, 58, rfl⟩
abbrev main_call0_call0_v15 : Ref sig .tc := ⟨.hbm, 59, rfl⟩
abbrev main_call0_call0_c_3 : Ref sig .tc := ⟨.hbm, 60, rfl⟩
abbrev main_call0_call0_v16 : Ref sig .tc := ⟨.hbm, 61, rfl⟩
abbrev main_call0_call0_v17 : Ref sig .tc := ⟨.hbm, 62, rfl⟩
abbrev main_call0_call0_v18 : Ref sig .tc := ⟨.hbm, 63, rfl⟩
abbrev main_call0_call0_v19 : Ref sig .tc := ⟨.hbm, 64, rfl⟩
abbrev main_call0_call0_v20 : Ref sig .tc := ⟨.hbm, 65, rfl⟩
abbrev main_call0_call0_c_4 : Ref sig .tc := ⟨.hbm, 66, rfl⟩
abbrev main_call0_call0_v21 : Ref sig .tc := ⟨.hbm, 67, rfl⟩
abbrev main_call0_call0_v22 : Ref sig .tc := ⟨.hbm, 68, rfl⟩
abbrev main_call0_call0_c_5 : Ref sig .tc := ⟨.hbm, 69, rfl⟩
abbrev main_call0_call0_v23 : Ref sig .tc := ⟨.hbm, 70, rfl⟩
abbrev main_call0_call0_v24 : Ref sig .tc := ⟨.hbm, 71, rfl⟩
abbrev main_call0_call0_v25 : Ref sig .tc := ⟨.hbm, 72, rfl⟩
abbrev main_call0_call0_v26 : Ref sig .tc := ⟨.hbm, 73, rfl⟩
abbrev main_call0_call0_v27 : Ref sig .tc := ⟨.hbm, 74, rfl⟩
abbrev main_call0_call0_c_6 : Ref sig .tc := ⟨.hbm, 75, rfl⟩
abbrev main_call0_call0_v28 : Ref sig .tc := ⟨.hbm, 76, rfl⟩
abbrev main_call0_call0_v29 : Ref sig .tc := ⟨.hbm, 77, rfl⟩
abbrev main_call0_call0_c_7 : Ref sig .tc := ⟨.hbm, 78, rfl⟩
abbrev main_call0_call0_v30 : Ref sig .tc := ⟨.hbm, 79, rfl⟩
abbrev main_call0_call0_v31 : Ref sig .tc := ⟨.hbm, 80, rfl⟩
abbrev main_call0_call0_v32 : Ref sig .tc := ⟨.hbm, 81, rfl⟩
abbrev main_call0_call0_v33 : Ref sig .tc := ⟨.hbm, 82, rfl⟩
abbrev main_call0_call0_v34 : Ref sig .tc := ⟨.hbm, 83, rfl⟩
abbrev main_call0_call0_v35 : Ref sig .tc := ⟨.hbm, 84, rfl⟩
abbrev main_call0_call0_v36 : Ref sig .tc := ⟨.hbm, 85, rfl⟩
abbrev main_call0_call0_v37 : Ref sig .tc := ⟨.hbm, 86, rfl⟩
abbrev main_call0_call0_c_8 : Ref sig .tc := ⟨.hbm, 87, rfl⟩
abbrev main_call0_call0_v38 : Ref sig .tc := ⟨.hbm, 88, rfl⟩
abbrev main_call0_call0_v39 : Ref sig .tc := ⟨.hbm, 89, rfl⟩
abbrev main_call0_call0_v40 : Ref sig .tc := ⟨.hbm, 90, rfl⟩
abbrev main_call0_call0_c_9 : Ref sig .tc := ⟨.hbm, 91, rfl⟩
abbrev main_call0_call0_v41 : Ref sig .tc := ⟨.hbm, 92, rfl⟩
abbrev main_call0_call0_v42 : Ref sig .tc := ⟨.hbm, 93, rfl⟩
abbrev main_call0_call0_c_10 : Ref sig .tc := ⟨.hbm, 94, rfl⟩
abbrev main_call0_call0_v43 : Ref sig .tc := ⟨.hbm, 95, rfl⟩
abbrev main_call0_call0_v44 : Ref sig .tc := ⟨.hbm, 96, rfl⟩
abbrev main_call0_call0_v45 : Ref sig .tc := ⟨.hbm, 97, rfl⟩
abbrev main_call0_call0_v46 : Ref sig .tc := ⟨.hbm, 98, rfl⟩
abbrev main_call0_call0_v47 : Ref sig .tc := ⟨.hbm, 99, rfl⟩
abbrev main_call0_call0_c_11 : Ref sig .tc := ⟨.hbm, 100, rfl⟩
abbrev main_call0_call0_v48 : Ref sig .tc := ⟨.hbm, 101, rfl⟩
abbrev main_call0_call0_v49 : Ref sig .tc := ⟨.hbm, 102, rfl⟩
abbrev main_call0_call0_c_12 : Ref sig .tc := ⟨.hbm, 103, rfl⟩
abbrev main_call0_call0_v50 : Ref sig .tc := ⟨.hbm, 104, rfl⟩
abbrev main_call0_call0_v51 : Ref sig .tc := ⟨.hbm, 105, rfl⟩
abbrev main_call0_call0_v52 : Ref sig .tc := ⟨.hbm, 106, rfl⟩
abbrev main_call0_call0_v53 : Ref sig .tc := ⟨.hbm, 107, rfl⟩
abbrev main_call0_call0_v54 : Ref sig .tc := ⟨.hbm, 108, rfl⟩
abbrev main_call0_call0_c_13 : Ref sig .tc := ⟨.hbm, 109, rfl⟩
abbrev main_call0_call0_v55 : Ref sig .tc := ⟨.hbm, 110, rfl⟩
abbrev main_call0_call0_v56 : Ref sig .tc := ⟨.hbm, 111, rfl⟩
abbrev main_call0_call0_c_14 : Ref sig .tc := ⟨.hbm, 112, rfl⟩
abbrev main_call0_call0_v57 : Ref sig .tc := ⟨.hbm, 113, rfl⟩
abbrev main_call0_call0_v58 : Ref sig .tc := ⟨.hbm, 114, rfl⟩
abbrev main_call0_call0_v59 : Ref sig .tc := ⟨.hbm, 115, rfl⟩
abbrev main_call0_call0_v60 : Ref sig .tc := ⟨.hbm, 116, rfl⟩
abbrev main_call0_call0_v61 : Ref sig .tc := ⟨.hbm, 117, rfl⟩
abbrev main_call0_call0_c_15 : Ref sig .tc := ⟨.hbm, 118, rfl⟩
abbrev main_call0_call0_v62 : Ref sig .tc := ⟨.hbm, 119, rfl⟩
abbrev main_call0_call0_v63 : Ref sig .tc := ⟨.hbm, 120, rfl⟩
abbrev main_call0_call0_c_16 : Ref sig .tc := ⟨.hbm, 121, rfl⟩
abbrev main_call0_call0_v64 : Ref sig .tc := ⟨.hbm, 122, rfl⟩
abbrev main_call0_call0_v65 : Ref sig .tc := ⟨.hbm, 123, rfl⟩
abbrev main_call0_call0_v66 : Ref sig .tc := ⟨.hbm, 124, rfl⟩
abbrev main_call0_call0_v67 : Ref sig .tc := ⟨.hbm, 125, rfl⟩
abbrev main_call0_call0_v68 : Ref sig .tc := ⟨.hbm, 126, rfl⟩
abbrev main_call0_call0_v69 : Ref sig .tc := ⟨.hbm, 127, rfl⟩
abbrev main_call0_call0_v70 : Ref sig .tc := ⟨.hbm, 128, rfl⟩
abbrev main_call0_call0_v71 : Ref sig .tc := ⟨.hbm, 129, rfl⟩
abbrev main_call0_call0_c_17 : Ref sig .tc := ⟨.hbm, 130, rfl⟩
abbrev main_call0_call0_v72 : Ref sig .tc := ⟨.hbm, 131, rfl⟩
abbrev main_call0_call0_v73 : Ref sig .tc := ⟨.hbm, 132, rfl⟩
abbrev main_call0_call0_v74 : Ref sig .tc := ⟨.hbm, 133, rfl⟩
abbrev main_call0_call0_c_18 : Ref sig .tc := ⟨.hbm, 134, rfl⟩
abbrev main_call0_call0_v75 : Ref sig .tc := ⟨.hbm, 135, rfl⟩
abbrev main_call0_call0_v76 : Ref sig .tc := ⟨.hbm, 136, rfl⟩
abbrev main_call0_call0_c_19 : Ref sig .tc := ⟨.hbm, 137, rfl⟩
abbrev main_call0_call0_v77 : Ref sig .tc := ⟨.hbm, 138, rfl⟩
abbrev main_call0_call0_v78 : Ref sig .tc := ⟨.hbm, 139, rfl⟩
abbrev main_call0_call0_v79 : Ref sig .tc := ⟨.hbm, 140, rfl⟩
abbrev main_call0_call0_v80 : Ref sig .tc := ⟨.hbm, 141, rfl⟩
abbrev main_call0_call0_v81 : Ref sig .tc := ⟨.hbm, 142, rfl⟩
abbrev main_call0_call0_c_20 : Ref sig .tc := ⟨.hbm, 143, rfl⟩
abbrev main_call0_call0_v82 : Ref sig .tc := ⟨.hbm, 144, rfl⟩
abbrev main_call0_call0_v83 : Ref sig .tc := ⟨.hbm, 145, rfl⟩
abbrev main_call0_call0_c_21 : Ref sig .tc := ⟨.hbm, 146, rfl⟩
abbrev main_call0_call0_v84 : Ref sig .tc := ⟨.hbm, 147, rfl⟩
abbrev main_call0_call0_v85 : Ref sig .tc := ⟨.hbm, 148, rfl⟩
abbrev main_call0_call0_v86 : Ref sig .tc := ⟨.hbm, 149, rfl⟩
abbrev main_call0_call0_v87 : Ref sig .tc := ⟨.hbm, 150, rfl⟩
abbrev main_call0_call0_v88 : Ref sig .tc := ⟨.hbm, 151, rfl⟩
abbrev main_call0_call0_c_22 : Ref sig .tc := ⟨.hbm, 152, rfl⟩
abbrev main_call0_call0_v89 : Ref sig .tc := ⟨.hbm, 153, rfl⟩
abbrev main_call0_call0_v90 : Ref sig .tc := ⟨.hbm, 154, rfl⟩
abbrev main_call0_call0_c_23 : Ref sig .tc := ⟨.hbm, 155, rfl⟩
abbrev main_call0_call0_v91 : Ref sig .tc := ⟨.hbm, 156, rfl⟩
abbrev main_call0_call0_v92 : Ref sig .tc := ⟨.hbm, 157, rfl⟩
abbrev main_call0_call0_v93 : Ref sig .tc := ⟨.hbm, 158, rfl⟩
abbrev main_call0_call0_v94 : Ref sig .tc := ⟨.hbm, 159, rfl⟩
abbrev main_call0_call0_v95 : Ref sig .tc := ⟨.hbm, 160, rfl⟩
abbrev main_call0_call0_c_24 : Ref sig .tc := ⟨.hbm, 161, rfl⟩
abbrev main_call0_call0_v96 : Ref sig .tc := ⟨.hbm, 162, rfl⟩
abbrev main_call0_call0_v97 : Ref sig .tc := ⟨.hbm, 163, rfl⟩
abbrev main_call0_call0_c_25 : Ref sig .tc := ⟨.hbm, 164, rfl⟩
abbrev main_call0_call0_v98 : Ref sig .tc := ⟨.hbm, 165, rfl⟩
abbrev main_call0_call0_v99 : Ref sig .tc := ⟨.hbm, 166, rfl⟩
abbrev main_call0_call0_v100 : Ref sig .tc := ⟨.hbm, 167, rfl⟩
abbrev main_call0_call0_v101 : Ref sig .tc := ⟨.hbm, 168, rfl⟩
abbrev main_call0_call0_v102 : Ref sig .tc := ⟨.hbm, 169, rfl⟩
abbrev main_call0_call0_v103 : Ref sig .tc := ⟨.hbm, 170, rfl⟩
abbrev main_call0_call0_v104 : Ref sig .tc := ⟨.hbm, 171, rfl⟩
abbrev main_call0_call0_v105 : Ref sig .tc := ⟨.hbm, 172, rfl⟩
abbrev main_call0_call0_c_26 : Ref sig .tc := ⟨.hbm, 173, rfl⟩
abbrev main_call0_call0_v106 : Ref sig .tc := ⟨.hbm, 174, rfl⟩
abbrev main_call0_call0_v107 : Ref sig .tc := ⟨.hbm, 175, rfl⟩
abbrev main_call0_call0_v108 : Ref sig .tc := ⟨.hbm, 176, rfl⟩
abbrev main_call0_call0_c_27 : Ref sig .tc := ⟨.hbm, 177, rfl⟩
abbrev main_call0_call0_v109 : Ref sig .tc := ⟨.hbm, 178, rfl⟩
abbrev main_call0_call0_v110 : Ref sig .tc := ⟨.hbm, 179, rfl⟩
abbrev main_call0_call0_c_28 : Ref sig .tc := ⟨.hbm, 180, rfl⟩
abbrev main_call0_call0_v111 : Ref sig .tc := ⟨.hbm, 181, rfl⟩
abbrev main_call0_call0_v112 : Ref sig .tc := ⟨.hbm, 182, rfl⟩
abbrev main_call0_call0_v113 : Ref sig .tc := ⟨.hbm, 183, rfl⟩
abbrev main_call0_call0_v114 : Ref sig .tc := ⟨.hbm, 184, rfl⟩
abbrev main_call0_call0_v115 : Ref sig .tc := ⟨.hbm, 185, rfl⟩
abbrev main_call0_call0_c_29 : Ref sig .tc := ⟨.hbm, 186, rfl⟩
abbrev main_call0_call0_v116 : Ref sig .tc := ⟨.hbm, 187, rfl⟩
abbrev main_call0_call0_v117 : Ref sig .tc := ⟨.hbm, 188, rfl⟩
abbrev main_call0_call0_c_30 : Ref sig .tc := ⟨.hbm, 189, rfl⟩
abbrev main_call0_call0_v118 : Ref sig .tc := ⟨.hbm, 190, rfl⟩
abbrev main_call0_call0_v119 : Ref sig .tc := ⟨.hbm, 191, rfl⟩
abbrev main_call0_call0_v120 : Ref sig .tc := ⟨.hbm, 192, rfl⟩
abbrev main_call0_call0_v121 : Ref sig .tc := ⟨.hbm, 193, rfl⟩
abbrev main_call0_call0_v122 : Ref sig .tc := ⟨.hbm, 194, rfl⟩
abbrev main_call0_call0_c_31 : Ref sig .tc := ⟨.hbm, 195, rfl⟩
abbrev main_call0_call0_v123 : Ref sig .tc := ⟨.hbm, 196, rfl⟩
abbrev main_call0_call0_v124 : Ref sig .tc := ⟨.hbm, 197, rfl⟩
abbrev main_call0_call0_c_32 : Ref sig .tc := ⟨.hbm, 198, rfl⟩
abbrev main_call0_call0_v125 : Ref sig .tc := ⟨.hbm, 199, rfl⟩
abbrev main_call0_call0_v126 : Ref sig .tc := ⟨.hbm, 200, rfl⟩
abbrev main_call0_call0_v127 : Ref sig .tc := ⟨.hbm, 201, rfl⟩
abbrev main_call0_call0_v128 : Ref sig .tc := ⟨.hbm, 202, rfl⟩
abbrev main_call0_call0_v129 : Ref sig .tc := ⟨.hbm, 203, rfl⟩
abbrev main_call0_call0_c_33 : Ref sig .tc := ⟨.hbm, 204, rfl⟩
abbrev main_call0_call0_v130 : Ref sig .tc := ⟨.hbm, 205, rfl⟩
abbrev main_call0_call0_v131 : Ref sig .tc := ⟨.hbm, 206, rfl⟩
abbrev main_call0_call0_c_34 : Ref sig .tc := ⟨.hbm, 207, rfl⟩
abbrev main_call0_call0_v132 : Ref sig .tc := ⟨.hbm, 208, rfl⟩
abbrev main_call0_call0_v133 : Ref sig .tc := ⟨.hbm, 209, rfl⟩
abbrev main_call0_call0_v134 : Ref sig .tc := ⟨.hbm, 210, rfl⟩
abbrev main_call0_call0_v135 : Ref sig .tc := ⟨.hbm, 211, rfl⟩
abbrev main_call0_call0_v136 : Ref sig .tc := ⟨.hbm, 212, rfl⟩
abbrev main_call0_call0_v137 : Ref sig .tc := ⟨.hbm, 213, rfl⟩
abbrev main_call0_call0_v138 : Ref sig .tc := ⟨.hbm, 214, rfl⟩
abbrev main_call0_call0_v139 : Ref sig .tc := ⟨.hbm, 215, rfl⟩
abbrev main_call0_call0_c_35 : Ref sig .tc := ⟨.hbm, 216, rfl⟩
abbrev main_call0_call0_v140 : Ref sig .tc := ⟨.hbm, 217, rfl⟩
abbrev main_call0_call0_v141 : Ref sig .tc := ⟨.hbm, 218, rfl⟩
abbrev main_call0_call0_v142 : Ref sig .tc := ⟨.hbm, 219, rfl⟩
abbrev main_call0_call0_c_36 : Ref sig .tc := ⟨.hbm, 220, rfl⟩
abbrev main_call0_call0_v143 : Ref sig .tc := ⟨.hbm, 221, rfl⟩
abbrev main_call0_call0_v144 : Ref sig .tc := ⟨.hbm, 222, rfl⟩
abbrev main_call0_call0_c_37 : Ref sig .tc := ⟨.hbm, 223, rfl⟩
abbrev main_call0_call0_v145 : Ref sig .tc := ⟨.hbm, 224, rfl⟩
abbrev main_call0_call0_v146 : Ref sig .tc := ⟨.hbm, 225, rfl⟩
abbrev main_call0_call0_v147 : Ref sig .tc := ⟨.hbm, 226, rfl⟩
abbrev main_call0_call0_v148 : Ref sig .tc := ⟨.hbm, 227, rfl⟩
abbrev main_call0_call0_v149 : Ref sig .tc := ⟨.hbm, 228, rfl⟩
abbrev main_call0_call0_c_38 : Ref sig .tc := ⟨.hbm, 229, rfl⟩
abbrev main_call0_call0_v150 : Ref sig .tc := ⟨.hbm, 230, rfl⟩
abbrev main_call0_call0_v151 : Ref sig .tc := ⟨.hbm, 231, rfl⟩
abbrev main_call0_call0_c_39 : Ref sig .tc := ⟨.hbm, 232, rfl⟩
abbrev main_call0_call0_v152 : Ref sig .tc := ⟨.hbm, 233, rfl⟩
abbrev main_call0_call0_v153 : Ref sig .tc := ⟨.hbm, 234, rfl⟩
abbrev main_call0_call0_v154 : Ref sig .tc := ⟨.hbm, 235, rfl⟩
abbrev main_call0_call0_v155 : Ref sig .tc := ⟨.hbm, 236, rfl⟩
abbrev main_call0_call0_v156 : Ref sig .tc := ⟨.hbm, 237, rfl⟩
abbrev main_call0_call0_c_40 : Ref sig .tc := ⟨.hbm, 238, rfl⟩
abbrev main_call0_call0_v157 : Ref sig .tc := ⟨.hbm, 239, rfl⟩
abbrev main_call0_call0_v158 : Ref sig .tc := ⟨.hbm, 240, rfl⟩
abbrev main_call0_call0_c_41 : Ref sig .tc := ⟨.hbm, 241, rfl⟩
abbrev main_call0_call0_v159 : Ref sig .tc := ⟨.hbm, 242, rfl⟩
abbrev main_call0_call0_v160 : Ref sig .tc := ⟨.hbm, 243, rfl⟩
abbrev main_call0_call0_v161 : Ref sig .tc := ⟨.hbm, 244, rfl⟩
abbrev main_call0_call0_v162 : Ref sig .tc := ⟨.hbm, 245, rfl⟩
abbrev main_call0_call0_v163 : Ref sig .tc := ⟨.hbm, 246, rfl⟩
abbrev main_call0_call0_c_42 : Ref sig .tc := ⟨.hbm, 247, rfl⟩
abbrev main_call0_call0_v164 : Ref sig .tc := ⟨.hbm, 248, rfl⟩
abbrev main_call0_call0_v165 : Ref sig .tc := ⟨.hbm, 249, rfl⟩
abbrev main_call0_call0_c_43 : Ref sig .tc := ⟨.hbm, 250, rfl⟩
abbrev main_call0_call0_v166 : Ref sig .tc := ⟨.hbm, 251, rfl⟩
abbrev main_call0_call0_v167 : Ref sig .tc := ⟨.hbm, 252, rfl⟩
abbrev main_call0_call0_v168 : Ref sig .tc := ⟨.hbm, 253, rfl⟩
abbrev main_call0_call0_v169 : Ref sig .tc := ⟨.hbm, 254, rfl⟩
abbrev main_call0_call0_v170 : Ref sig .tc := ⟨.hbm, 255, rfl⟩
abbrev main_call0_v23_0 : Ref sig .tc := ⟨.hbm, 256, rfl⟩
abbrev main_call0_call0_v172 : Ref sig .tc := ⟨.hbm, 257, rfl⟩
abbrev main_call0_call0_v173 : Ref sig .tc := ⟨.hbm, 258, rfl⟩
abbrev main_call0_call0_c_44 : Ref sig .tc := ⟨.hbm, 259, rfl⟩
abbrev main_call0_call0_v174 : Ref sig .tc := ⟨.hbm, 260, rfl⟩
abbrev main_call0_v23_1 : Ref sig .tc := ⟨.hbm, 261, rfl⟩
abbrev main_call0_v24 : Ref sig .tc := ⟨.hbm, 262, rfl⟩
abbrev main_call0_c_3 : Ref sig .tc := ⟨.hbm, 263, rfl⟩
abbrev main_call0_v25 : Ref sig .tc := ⟨.hbm, 264, rfl⟩
abbrev main_call0_v26 : Ref sig .tc := ⟨.hbm, 265, rfl⟩
abbrev main_call0_c_4 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_cst : Ref sig .tc := ⟨.hbm, 270, rfl⟩
abbrev main_call0_v30 : Ref sig .tc := ⟨.hbm, 271, rfl⟩
abbrev main_call0_v31 : Ref sig .tc := ⟨.hbm, 272, rfl⟩
abbrev main_call0_v32 : Ref sig .tc := ⟨.hbm, 273, rfl⟩
abbrev main_call0_v33 : Ref sig .tc := ⟨.hbm, 274, rfl⟩
abbrev main_call0_v34 : Ref sig .tc := ⟨.hbm, 275, rfl⟩
abbrev main_call0_v35 : Ref sig .tc := ⟨.hbm, 276, rfl⟩
abbrev main_call0_v36 : Ref sig .tc := ⟨.hbm, 277, rfl⟩
abbrev main_call0_v37 : Ref sig .tc := ⟨.hbm, 278, rfl⟩
abbrev main_v7 : Ref sig .tc := ⟨.hbm, 279, rfl⟩
abbrev main_call1_cst : Ref sig .tc := ⟨.hbm, 280, rfl⟩
abbrev main_call1_v0 : Ref sig .tc := ⟨.hbm, 281, rfl⟩
abbrev main_call1_v1 : Ref sig .tc := ⟨.hbm, 282, rfl⟩
abbrev main_call1_v2 : Ref sig .tc := ⟨.hbm, 283, rfl⟩
abbrev main_call1_v3 : Ref sig .tc := ⟨.hbm, 284, rfl⟩
abbrev main_call1_c : Ref sig .tc := ⟨.hbm, 285, rfl⟩
abbrev main_call1_v4 : Ref sig .tc := ⟨.hbm, 286, rfl⟩
abbrev main_call1_v5 : Ref sig .tc := ⟨.hbm, 287, rfl⟩
abbrev main_call1_c_0 : Ref sig .tc := ⟨.hbm, 288, rfl⟩
abbrev main_call1_v6 : Ref sig .tc := ⟨.hbm, 289, rfl⟩
abbrev main_call1_v7 : Ref sig .tc := ⟨.hbm, 290, rfl⟩
abbrev main_call1_c_1 : Ref sig .tc := ⟨.hbm, 291, rfl⟩
abbrev main_call1_v8 : Ref sig .tc := ⟨.hbm, 292, rfl⟩
abbrev main_call1_v9 : Ref sig .tc := ⟨.hbm, 293, rfl⟩
abbrev main_call1_c_2 : Ref sig .tc := ⟨.hbm, 294, rfl⟩
abbrev main_call1_v10 : Ref sig .tc := ⟨.hbm, 295, rfl⟩
abbrev main_call1_v11 : Ref sig .tc := ⟨.hbm, 296, rfl⟩
abbrev main_call1_v12 : Ref sig .tc := ⟨.hbm, 297, rfl⟩
abbrev main_call1_v13 : Ref sig .tc := ⟨.hbm, 298, rfl⟩
abbrev main_call1_c_3 : Ref sig .tc := ⟨.hbm, 299, rfl⟩
abbrev main_call1_call0_v0 : Ref sig .tc := ⟨.hbm, 300, rfl⟩
abbrev main_call1_call0_v1 : Ref sig .tc := ⟨.hbm, 301, rfl⟩
abbrev main_v8 : Ref sig .tc := ⟨.hbm, 302, rfl⟩
abbrev main_v9 : Ref sig .tc := ⟨.hbm, 303, rfl⟩
abbrev main_v10 : Ref sig .tc := ⟨.hbm, 304, rfl⟩
abbrev main_v11 : Ref sig .tc := ⟨.hbm, 305, rfl⟩
abbrev main_v12_0 : Ref sig .tc := ⟨.hbm, 306, rfl⟩
abbrev main_v12_1 : Ref sig .tc := ⟨.hbm, 307, rfl⟩
abbrev main_v13 : Ref sig .tc := ⟨.hbm, 308, rfl⟩
abbrev main_v14 : Ref sig .tc := ⟨.hbm, 309, rfl⟩
abbrev main_v15 : Ref sig .tc := ⟨.hbm, 310, rfl⟩
abbrev main_cst_3 : Ref sig .tc := ⟨.hbm, 311, rfl⟩
abbrev main_v16 : Ref sig .tc := ⟨.hbm, 312, rfl⟩
abbrev main_v17 : Ref sig .tc := ⟨.hbm, 313, rfl⟩
abbrev main_v18 : Ref sig .tc := ⟨.hbm, 314, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_39 : BitVec 32 := 0#32
  let c31_i32 : BitVec 32 := 31#32
  let v34 : BitVec 32 := Scalar.addi c0_i32_39 c31_i32
  let c1_i32_40 : BitVec 32 := 1#32
  ⟨c0_i32_39, v34, c1_i32_40⟩
abbrev stage0_0 : Fin 1 → Memref sig .tc .vmem S512x512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32x16x512x64 : Shape := ⟨4, ![32, 16, 512, 64]⟩
abbrev S_ : Shape := ⟨0, ![]⟩
abbrev S1 : Shape := ⟨1, ![1]⟩
abbrev S2 : Shape := ⟨1, ![2]⟩
abbrev S1x1x1 : Shape := ⟨3, ![1, 1, 1]⟩
abbrev S32x16x512 : Shape := ⟨3, ![32, 16, 512]⟩
abbrev S32x16x256 : Shape := ⟨3, ![32, 16, 256]⟩
abbrev S32x16x512x1 : Shape := ⟨4, ![32, 16, 512, 1]⟩
abbrev S1x1x1x1 : Shape := ⟨4, ![1, 1, 1, 1]⟩

abbrev nBuf : Space → Nat
  | .hbm => 328
  | .vmem => 0
  | .smem => 0
  | _ => 0

abbrev hbmTy0_0 (i : Nat) : BufTy := match i % 128 with
  | 0 => ⟨S32x16x512x64, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1x1, .f32⟩
  | 16 => ⟨S1x1x1, .f32⟩
  | 17 => ⟨S1, .i32⟩
  | 18 => ⟨S_, .i32⟩
  | 19 => ⟨S1, .i32⟩
  | 20 => ⟨S_, .i32⟩
  | 21 => ⟨S32x16x512, .i64⟩
  | 22 => ⟨S32x16x512, .i64⟩
  | 23 => ⟨S32x16x512, .i64⟩
  | 24 => ⟨S_, .i64⟩
  | 25 => ⟨S32x16x512, .i64⟩
  | 26 => ⟨S32x16x512, .i64⟩
  | 27 => ⟨S_, .i64⟩
  | 28 => ⟨S32x16x512, .i64⟩
  | 29 => ⟨S32x16x512, .i64⟩
  | 30 => ⟨S_, .i64⟩
  | 31 => ⟨S32x16x512, .i64⟩
  | 32 => ⟨S32x16x512, .i64⟩
  | 33 => ⟨S32x16x512, .i64⟩
  | 34 => ⟨S32x16x512, .i64⟩
  | 35 => ⟨S_, .i64⟩
  | 36 => ⟨S32x16x512, .i64⟩
  | 37 => ⟨S32x16x512, .i64⟩
  | 38 => ⟨S32x16x512, .i32⟩
  | 39 => ⟨S32x16x512, .i32⟩
  | 40 => ⟨S_, .i32⟩
  | 41 => ⟨S_, .i32⟩
  | 42 => ⟨S_, .i32⟩
  | 43 => ⟨S32x16x512, .i32⟩
  | 44 => ⟨S32x16x512, .i32⟩
  | 45 => ⟨S32x16x512, .i32⟩
  | 46 => ⟨S32x16x512, .i32⟩
  | 47 => ⟨S32x16x512, .i32⟩
  | 48 => ⟨S_, .i32⟩
  | 49 => ⟨S32x16x512, .i32⟩
  | 50 => ⟨S32x16x512, .i32⟩
  | 51 => ⟨S_, .i32⟩
  | 52 => ⟨S32x16x512, .i32⟩
  | 53 => ⟨S32x16x512, .i32⟩
  | 54 => ⟨S32x16x512, .i32⟩
  | 55 => ⟨S32x16x512, .i32⟩
  | 56 => ⟨S32x16x512, .i32⟩
  | 57 => ⟨S_, .i32⟩
  | 58 => ⟨S32x16x512, .i32⟩
  | 59 => ⟨S32x16x512, .i32⟩
  | 60 => ⟨S_, .i32⟩
  | 61 => ⟨S32x16x512, .i32⟩
  | 62 => ⟨S32x16x512, .i32⟩
  | 63 => ⟨S32x16x512, .i32⟩
  | 64 => ⟨S32x16x512, .i32⟩
  | 65 => ⟨S32x16x512, .i32⟩
  | 66 => ⟨S_, .i32⟩
  | 67 => ⟨S32x16x512, .i32⟩
  | 68 => ⟨S32x16x512, .i32⟩
  | 69 => ⟨S_, .i32⟩
  | 70 => ⟨S32x16x512, .i32⟩
  | 71 => ⟨S32x16x512, .i32⟩
  | 72 => ⟨S32x16x512, .i32⟩
  | 73 => ⟨S32x16x512, .i32⟩
  | 74 => ⟨S32x16x512, .i32⟩
  | 75 => ⟨S_, .i32⟩
  | 76 => ⟨S32x16x512, .i32⟩
  | 77 => ⟨S32x16x512, .i32⟩
  | 78 => ⟨S_, .i32⟩
  | 79 => ⟨S32x16x512, .i32⟩
  | 80 => ⟨S32x16x512, .i32⟩
  | 81 => ⟨S32x16x512, .i32⟩
  | 82 => ⟨S32x16x512, .i32⟩
  | 83 => ⟨S32x16x512, .i32⟩
  | 84 => ⟨S32x16x512, .i32⟩
  | 85 => ⟨S32x16x512, .i32⟩
  | 86 => ⟨S32x16x512, .i32⟩
  | 87 => ⟨S_, .i32⟩
  | 88 => ⟨S32x16x512, .i32⟩
  | 89 => ⟨S32x16x512, .i32⟩
  | 90 => ⟨S32x16x512, .i32⟩
  | 91 => ⟨S_, .i32⟩
  | 92 => ⟨S32x16x512, .i32⟩
  | 93 => ⟨S32x16x512, .i32⟩
  | 94 => ⟨S_, .i32⟩
  | 95 => ⟨S32x16x512, .i32⟩
  | 96 => ⟨S32x16x512, .i32⟩
  | 97 => ⟨S32x16x512, .i32⟩
  | 98 => ⟨S32x16x512, .i32⟩
  | 99 => ⟨S32x16x512, .i32⟩
  | 100 => ⟨S_, .i32⟩
  | 101 => ⟨S32x16x512, .i32⟩
  | 102 => ⟨S32x16x512, .i32⟩
  | 103 => ⟨S_, .i32⟩
  | 104 => ⟨S32x16x512, .i32⟩
  | 105 => ⟨S32x16x512, .i32⟩
  | 106 => ⟨S32x16x512, .i32⟩
  | 107 => ⟨S32x16x512, .i32⟩
  | 108 => ⟨S32x16x512, .i32⟩
  | 109 => ⟨S_, .i32⟩
  | 110 => ⟨S32x16x512, .i32⟩
  | 111 => ⟨S32x16x512, .i32⟩
  | 112 => ⟨S_, .i32⟩
  | 113 => ⟨S32x16x512, .i32⟩
  | 114 => ⟨S32x16x512, .i32⟩
  | 115 => ⟨S32x16x512, .i32⟩
  | 116 => ⟨S32x16x512, .i32⟩
  | 117 => ⟨S32x16x512, .i32⟩
  | 118 => ⟨S_, .i32⟩
  | 119 => ⟨S32x16x512, .i32⟩
  | 120 => ⟨S32x16x512, .i32⟩
  | 121 => ⟨S_, .i32⟩
  | 122 => ⟨S32x16x512, .i32⟩
  | 123 => ⟨S32x16x512, .i32⟩
  | 124 => ⟨S32x16x512, .i32⟩
  | 125 => ⟨S32x16x512, .i32⟩
  | 126 => ⟨S32x16x512, .i32⟩
  | 127 => ⟨S32x16x512, .i32⟩
  | _ => ⟨S32x16x512x64, .f32⟩

abbrev hbmTy0_1 (i : Nat) : BufTy := match i % 128 with
  | 0 => ⟨S32x16x512, .i32⟩
  | 1 => ⟨S32x16x512, .i32⟩
  | 2 => ⟨S_, .i32⟩
  | 3 => ⟨S32x16x512, .i32⟩
  | 4 => ⟨S32x16x512, .i32⟩
  | 5 => ⟨S32x16x512, .i32⟩
  | 6 => ⟨S_, .i32⟩
  | 7 => ⟨S32x16x512, .i32⟩
  | 8 => ⟨S32x16x512, .i32⟩
  | 9 => ⟨S_, .i32⟩
  | 10 => ⟨S32x16x512, .i32⟩
  | 11 => ⟨S32x16x512, .i32⟩
  | 12 => ⟨S32x16x512, .i32⟩
  | 13 => ⟨S32x16x512, .i32⟩
  | 14 => ⟨S32x16x512, .i32⟩
  | 15 => ⟨S_, .i32⟩
  | 16 => ⟨S32x16x512, .i32⟩
  | 17 => ⟨S32x16x512, .i32⟩
  | 18 => ⟨S_, .i32⟩
  | 19 => ⟨S32x16x512, .i32⟩
  | 20 => ⟨S32x16x512, .i32⟩
  | 21 => ⟨S32x16x512, .i32⟩
  | 22 => ⟨S32x16x512, .i32⟩
  | 23 => ⟨S32x16x512, .i32⟩
  | 24 => ⟨S_, .i32⟩
  | 25 => ⟨S32x16x512, .i32⟩
  | 26 => ⟨S32x16x512, .i32⟩
  | 27 => ⟨S_, .i32⟩
  | 28 => ⟨S32x16x512, .i32⟩
  | 29 => ⟨S32x16x512, .i32⟩
  | 30 => ⟨S32x16x512, .i32⟩
  | 31 => ⟨S32x16x512, .i32⟩
  | 32 => ⟨S32x16x512, .i32⟩
  | 33 => ⟨S_, .i32⟩
  | 34 => ⟨S32x16x512, .i32⟩
  | 35 => ⟨S32x16x512, .i32⟩
  | 36 => ⟨S_, .i32⟩
  | 37 => ⟨S32x16x512, .i32⟩
  | 38 => ⟨S32x16x512, .i32⟩
  | 39 => ⟨S32x16x512, .i32⟩
  | 40 => ⟨S32x16x512, .i32⟩
  | 41 => ⟨S32x16x512, .i32⟩
  | 42 => ⟨S32x16x512, .i32⟩
  | 43 => ⟨S32x16x512, .i32⟩
  | 44 => ⟨S32x16x512, .i32⟩
  | 45 => ⟨S_, .i32⟩
  | 46 => ⟨S32x16x512, .i32⟩
  | 47 => ⟨S32x16x512, .i32⟩
  | 48 => ⟨S32x16x512, .i32⟩
  | 49 => ⟨S_, .i32⟩
  | 50 => ⟨S32x16x512, .i32⟩
  | 51 => ⟨S32x16x512, .i32⟩
  | 52 => ⟨S_, .i32⟩
  | 53 => ⟨S32x16x512, .i32⟩
  | 54 => ⟨S32x16x512, .i32⟩
  | 55 => ⟨S32x16x512, .i32⟩
  | 56 => ⟨S32x16x512, .i32⟩
  | 57 => ⟨S32x16x512, .i32⟩
  | 58 => ⟨S_, .i32⟩
  | 59 => ⟨S32x16x512, .i32⟩
  | 60 => ⟨S32x16x512, .i32⟩
  | 61 => ⟨S_, .i32⟩
  | 62 => ⟨S32x16x512, .i32⟩
  | 63 => ⟨S32x16x512, .i32⟩
  | 64 => ⟨S32x16x512, .i32⟩
  | 65 => ⟨S32x16x512, .i32⟩
  | 66 => ⟨S32x16x512, .i32⟩
  | 67 => ⟨S_, .i32⟩
  | 68 => ⟨S32x16x512, .i32⟩
  | 69 => ⟨S32x16x512, .i32⟩
  | 70 => ⟨S_, .i32⟩
  | 71 => ⟨S32x16x512, .i32⟩
  | 72 => ⟨S32x16x512, .i32⟩
  | 73 => ⟨S32x16x512, .i32⟩
  | 74 => ⟨S32x16x512, .i32⟩
  | 75 => ⟨S32x16x512, .i32⟩
  | 76 => ⟨S_, .i32⟩
  | 77 => ⟨S32x16x512, .i32⟩
  | 78 => ⟨S32x16x512, .i32⟩
  | 79 => ⟨S_, .i32⟩
  | 80 => ⟨S32x16x512, .i32⟩
  | 81 => ⟨S32x16x512, .i32⟩
  | 82 => ⟨S32x16x512, .i32⟩
  | 83 => ⟨S32x16x512, .i32⟩
  | 84 => ⟨S32x16x512, .i32⟩
  | 85 => ⟨S32x16x512, .i32⟩
  | 86 => ⟨S32x16x512, .i32⟩
  | 87 => ⟨S32x16x512, .i32⟩
  | 88 => ⟨S_, .i32⟩
  | 89 => ⟨S32x16x512, .i32⟩
  | 90 => ⟨S32x16x512, .i32⟩
  | 91 => ⟨S32x16x512, .i32⟩
  | 92 => ⟨S_, .i32⟩
  | 93 => ⟨S32x16x512, .i32⟩
  | 94 => ⟨S32x16x512, .i32⟩
  | 95 => ⟨S_, .i32⟩
  | 96 => ⟨S32x16x512, .i32⟩
  | 97 => ⟨S32x16x512, .i32⟩
  | 98 => ⟨S32x16x512, .i32⟩
  | 99 => ⟨S32x16x512, .i32⟩
  | 100 => ⟨S32x16x512, .i32⟩
  | 101 => ⟨S_, .i32⟩
  | 102 => ⟨S32x16x512, .i32⟩
  | 103 => ⟨S32x16x512, .i32⟩
  | 104 => ⟨S_, .i32⟩
  | 105 => ⟨S32x16x512, .i32⟩
  | 106 => ⟨S32x16x512, .i32⟩
  | 107 => ⟨S32x16x512, .i32⟩
  | 108 => ⟨S32x16x512, .i32⟩
  | 109 => ⟨S32x16x512, .i32⟩
  | 110 => ⟨S_, .i32⟩
  | 111 => ⟨S32x16x512, .i32⟩
  | 112 => ⟨S32x16x512, .i32⟩
  | 113 => ⟨S_, .i32⟩
  | 114 => ⟨S32x16x512, .i32⟩
  | 115 => ⟨S32x16x512, .i32⟩
  | 116 => ⟨S32x16x512, .i32⟩
  | 117 => ⟨S32x16x512, .i32⟩
  | 118 => ⟨S32x16x512, .i32⟩
  | 119 => ⟨S_, .i32⟩
  | 120 => ⟨S32x16x512, .i32⟩
  | 121 => ⟨S32x16x512, .i32⟩
  | 122 => ⟨S_, .i32⟩
  | 123 => ⟨S32x16x512, .i32⟩
  | 124 => ⟨S32x16x512, .i32⟩
  | 125 => ⟨S32x16x512, .i32⟩
  | 126 => ⟨S32x16x512, .i32⟩
  | 127 => ⟨S32x16x512, .i32⟩
  | _ => ⟨S32x16x512x64, .f32⟩

abbrev hbmTy0_2 (i : Nat) : BufTy := match i % 128 with
  | 0 => ⟨S32x16x512, .i32⟩
  | 1 => ⟨S32x16x512, .i32⟩
  | 2 => ⟨S32x16x512, .i32⟩
  | 3 => ⟨S_, .i32⟩
  | 4 => ⟨S32x16x512, .i32⟩
  | 5 => ⟨S32x16x512, .i32⟩
  | 6 => ⟨S32x16x512, .i32⟩
  | 7 => ⟨S_, .i32⟩
  | 8 => ⟨S32x16x512, .i32⟩
  | 9 => ⟨S32x16x512, .i32⟩
  | 10 => ⟨S_, .i32⟩
  | 11 => ⟨S32x16x512, .i32⟩
  | 12 => ⟨S32x16x512, .i32⟩
  | 13 => ⟨S32x16x512, .f32⟩
  | 14 => ⟨S_, .f32⟩
  | 15 => ⟨S32x16x512, .f32⟩
  | 16 => ⟨S32x16x512, .f32⟩
  | 17 => ⟨S1x1x1, .f32⟩
  | 18 => ⟨S32x16x512, .f32⟩
  | 19 => ⟨S32x16x512, .f32⟩
  | 20 => ⟨S32x16x512, .f32⟩
  | 21 => ⟨S32x16x512, .f32⟩
  | 22 => ⟨S32x16x512, .f32⟩
  | 23 => ⟨S32x16x512, .f32⟩
  | 24 => ⟨S_, .f32⟩
  | 25 => ⟨S32x16x512, .f32⟩
  | 26 => ⟨S_, .i32⟩
  | 27 => ⟨S1, .i32⟩
  | 28 => ⟨S_, .f32⟩
  | 29 => ⟨S32x16x256, .f32⟩
  | 30 => ⟨S32x16x512, .f32⟩
  | 31 => ⟨S32x16x512, .i32⟩
  | 32 => ⟨S32x16x512, .f32⟩
  | 33 => ⟨S32x16x512, .i32⟩
  | 34 => ⟨S32x16x512, .i32⟩
  | 35 => ⟨S32x16x512, .i32⟩
  | 36 => ⟨S32x16x512, .i32⟩
  | 37 => ⟨S_, .i32⟩
  | 38 => ⟨S32x16x512, .i32⟩
  | 39 => ⟨S32x16x512, .i1⟩
  | 40 => ⟨S_, .i32⟩
  | 41 => ⟨S32x16x512, .i32⟩
  | 42 => ⟨S32x16x512, .i32⟩
  | 43 => ⟨S32x16x512, .i32⟩
  | 44 => ⟨S32x16x512x1, .i32⟩
  | 45 => ⟨S1, .i32⟩
  | 46 => ⟨S_, .i32⟩
  | 47 => ⟨S32x16x512x1, .i32⟩
  | 48 => ⟨S32x16x512x1, .i1⟩
  | 49 => ⟨S1x1x1x1, .i32⟩
  | 50 => ⟨S32x16x512x1, .i32⟩
  | 51 => ⟨S32x16x512x1, .i1⟩
  | 52 => ⟨S32x16x512x1, .i1⟩
  | 53 => ⟨S_, .i1⟩
  | 54 => ⟨S32x16x512, .i1⟩
  | 55 => ⟨S32x16x512, .f32⟩
  | 56 => ⟨S_, .f32⟩
  | 57 => ⟨S32x16x512, .f32⟩
  | 58 => ⟨S32x16x512, .f32⟩
  | 59 => ⟨S32x16x512x1, .f32⟩
  | 60 => ⟨S32x16x512x64, .f32⟩
  | 61 => ⟨S_, .f32⟩
  | 62 => ⟨S32x16x512x64, .f32⟩
  | 63 => ⟨S32x16x512x64, .i1⟩
  | 64 => ⟨S32x16x512x64, .i1⟩
  | 65 => ⟨S_, .f32⟩
  | 66 => ⟨S32x16x512x64, .f32⟩
  | 67 => ⟨S32x16x512x64, .f32⟩
  | 68 => ⟨S_, .f32⟩
  | 69 => ⟨S32x16x512, .f32⟩
  | 70 => ⟨S32x16x512, .i1⟩
  | 71 => ⟨S32x16x512, .i1⟩
  | _ => ⟨S32x16x512x64, .f32⟩

abbrev hbmTy (i : Nat) : BufTy := match i / 128 with
  | 0 => hbmTy0_0 i
  | 1 => hbmTy0_1 i
  | 2 => hbmTy0_2 i
  | _ => ⟨S32x16x512x64, .f32⟩

abbrev bufTy : (tb : Table) → Fin (tcTables nBuf tb) → BufTy
  | .hbm, ⟨i, _⟩ => hbmTy i
  | _, _ => ⟨S32x16x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c : Ref sig .tc := ⟨.hbm, 24, rfl⟩
abbrev main_call0_v11 : Ref sig .tc := ⟨.hbm, 25, rfl⟩
abbrev main_call0_v12 : Ref sig .tc := ⟨.hbm, 26, rfl⟩
abbrev main_call0_c_0 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_c_2 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_call0_v0 : Ref sig .tc := ⟨.hbm, 40, rfl⟩
abbrev main_call0_call0_c : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_c_0 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_c_1 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_call0_v12 : Ref sig .tc := ⟨.hbm, 55, rfl⟩
abbrev main_call0_call0_v13 : Ref sig .tc := ⟨.hbm, 56, rfl⟩
abbrev main_call0_call0_c_2 : Ref sig .tc := ⟨.hbm, 57, rfl⟩
abbrev main_call0_call0_v14 : Ref sig .tc := ⟨.hbm, 58, rfl⟩
abbrev main_call0_call0_v15 : Ref sig .tc := ⟨.hbm, 59, rfl⟩
abbrev main_call0_call0_c_3 : Ref sig .tc := ⟨.hbm, 60, rfl⟩
abbrev main_call0_call0_v16 : Ref sig .tc := ⟨.hbm, 61, rfl⟩
abbrev main_call0_call0_v17 : Ref sig .tc := ⟨.hbm, 62, rfl⟩
abbrev main_call0_call0_v18 : Ref sig .tc := ⟨.hbm, 63, rfl⟩
abbrev main_call0_call0_v19 : Ref sig .tc := ⟨.hbm, 64, rfl⟩
abbrev main_call0_call0_v20 : Ref sig .tc := ⟨.hbm, 65, rfl⟩
abbrev main_call0_call0_c_4 : Ref sig .tc := ⟨.hbm, 66, rfl⟩
abbrev main_call0_call0_v21 : Ref sig .tc := ⟨.hbm, 67, rfl⟩
abbrev main_call0_call0_v22 : Ref sig .tc := ⟨.hbm, 68, rfl⟩
abbrev main_call0_call0_c_5 : Ref sig .tc := ⟨.hbm, 69, rfl⟩
abbrev main_call0_call0_v23 : Ref sig .tc := ⟨.hbm, 70, rfl⟩
abbrev main_call0_call0_v24 : Ref sig .tc := ⟨.hbm, 71, rfl⟩
abbrev main_call0_call0_v25 : Ref sig .tc := ⟨.hbm, 72, rfl⟩
abbrev main_call0_call0_v26 : Ref sig .tc := ⟨.hbm, 73, rfl⟩
abbrev main_call0_call0_v27 : Ref sig .tc := ⟨.hbm, 74, rfl⟩
abbrev main_call0_call0_c_6 : Ref sig .tc := ⟨.hbm, 75, rfl⟩
abbrev main_call0_call0_v28 : Ref sig .tc := ⟨.hbm, 76, rfl⟩
abbrev main_call0_call0_v29 : Ref sig .tc := ⟨.hbm, 77, rfl⟩
abbrev main_call0_call0_c_7 : Ref sig .tc := ⟨.hbm, 78, rfl⟩
abbrev main_call0_call0_v30 : Ref sig .tc := ⟨.hbm, 79, rfl⟩
abbrev main_call0_call0_v31 : Ref sig .tc := ⟨.hbm, 80, rfl⟩
abbrev main_call0_call0_v32 : Ref sig .tc := ⟨.hbm, 81, rfl⟩
abbrev main_call0_call0_v33 : Ref sig .tc := ⟨.hbm, 82, rfl⟩
abbrev main_call0_call0_v34 : Ref sig .tc := ⟨.hbm, 83, rfl⟩
abbrev main_call0_call0_v35 : Ref sig .tc := ⟨.hbm, 84, rfl⟩
abbrev main_call0_call0_v36 : Ref sig .tc := ⟨.hbm, 85, rfl⟩
abbrev main_call0_call0_v37 : Ref sig .tc := ⟨.hbm, 86, rfl⟩
abbrev main_call0_call0_c_8 : Ref sig .tc := ⟨.hbm, 87, rfl⟩
abbrev main_call0_call0_v38 : Ref sig .tc := ⟨.hbm, 88, rfl⟩
abbrev main_call0_call0_v39 : Ref sig .tc := ⟨.hbm, 89, rfl⟩
abbrev main_call0_call0_v40 : Ref sig .tc := ⟨.hbm, 90, rfl⟩
abbrev main_call0_call0_c_9 : Ref sig .tc := ⟨.hbm, 91, rfl⟩
abbrev main_call0_call0_v41 : Ref sig .tc := ⟨.hbm, 92, rfl⟩
abbrev main_call0_call0_v42 : Ref sig .tc := ⟨.hbm, 93, rfl⟩
abbrev main_call0_call0_c_10 : Ref sig .tc := ⟨.hbm, 94, rfl⟩
abbrev main_call0_call0_v43 : Ref sig .tc := ⟨.hbm, 95, rfl⟩
abbrev main_call0_call0_v44 : Ref sig .tc := ⟨.hbm, 96, rfl⟩
abbrev main_call0_call0_v45 : Ref sig .tc := ⟨.hbm, 97, rfl⟩
abbrev main_call0_call0_v46 : Ref sig .tc := ⟨.hbm, 98, rfl⟩
abbrev main_call0_call0_v47 : Ref sig .tc := ⟨.hbm, 99, rfl⟩
abbrev main_call0_call0_c_11 : Ref sig .tc := ⟨.hbm, 100, rfl⟩
abbrev main_call0_call0_v48 : Ref sig .tc := ⟨.hbm, 101, rfl⟩
abbrev main_call0_call0_v49 : Ref sig .tc := ⟨.hbm, 102, rfl⟩
abbrev main_call0_call0_c_12 : Ref sig .tc := ⟨.hbm, 103, rfl⟩
abbrev main_call0_call0_v50 : Ref sig .tc := ⟨.hbm, 104, rfl⟩
abbrev main_call0_call0_v51 : Ref sig .tc := ⟨.hbm, 105, rfl⟩
abbrev main_call0_call0_v52 : Ref sig .tc := ⟨.hbm, 106, rfl⟩
abbrev main_call0_call0_v53 : Ref sig .tc := ⟨.hbm, 107, rfl⟩
abbrev main_call0_call0_v54 : Ref sig .tc := ⟨.hbm, 108, rfl⟩
abbrev main_call0_call0_c_13 : Ref sig .tc := ⟨.hbm, 109, rfl⟩
abbrev main_call0_call0_v55 : Ref sig .tc := ⟨.hbm, 110, rfl⟩
abbrev main_call0_call0_v56 : Ref sig .tc := ⟨.hbm, 111, rfl⟩
abbrev main_call0_call0_c_14 : Ref sig .tc := ⟨.hbm, 112, rfl⟩
abbrev main_call0_call0_v57 : Ref sig .tc := ⟨.hbm, 113, rfl⟩
abbrev main_call0_call0_v58 : Ref sig .tc := ⟨.hbm, 114, rfl⟩
abbrev main_call0_call0_v59 : Ref sig .tc := ⟨.hbm, 115, rfl⟩
abbrev main_call0_call0_v60 : Ref sig .tc := ⟨.hbm, 116, rfl⟩
abbrev main_call0_call0_v61 : Ref sig .tc := ⟨.hbm, 117, rfl⟩
abbrev main_call0_call0_c_15 : Ref sig .tc := ⟨.hbm, 118, rfl⟩
abbrev main_call0_call0_v62 : Ref sig .tc := ⟨.hbm, 119, rfl⟩
abbrev main_call0_call0_v63 : Ref sig .tc := ⟨.hbm, 120, rfl⟩
abbrev main_call0_call0_c_16 : Ref sig .tc := ⟨.hbm, 121, rfl⟩
abbrev main_call0_call0_v64 : Ref sig .tc := ⟨.hbm, 122, rfl⟩
abbrev main_call0_call0_v65 : Ref sig .tc := ⟨.hbm, 123, rfl⟩
abbrev main_call0_call0_v66 : Ref sig .tc := ⟨.hbm, 124, rfl⟩
abbrev main_call0_call0_v67 : Ref sig .tc := ⟨.hbm, 125, rfl⟩
abbrev main_call0_call0_v68 : Ref sig .tc := ⟨.hbm, 126, rfl⟩
abbrev main_call0_call0_v69 : Ref sig .tc := ⟨.hbm, 127, rfl⟩
abbrev main_call0_call0_v70 : Ref sig .tc := ⟨.hbm, 128, rfl⟩
abbrev main_call0_call0_v71 : Ref sig .tc := ⟨.hbm, 129, rfl⟩
abbrev main_call0_call0_c_17 : Ref sig .tc := ⟨.hbm, 130, rfl⟩
abbrev main_call0_call0_v72 : Ref sig .tc := ⟨.hbm, 131, rfl⟩
abbrev main_call0_call0_v73 : Ref sig .tc := ⟨.hbm, 132, rfl⟩
abbrev main_call0_call0_v74 : Ref sig .tc := ⟨.hbm, 133, rfl⟩
abbrev main_call0_call0_c_18 : Ref sig .tc := ⟨.hbm, 134, rfl⟩
abbrev main_call0_call0_v75 : Ref sig .tc := ⟨.hbm, 135, rfl⟩
abbrev main_call0_call0_v76 : Ref sig .tc := ⟨.hbm, 136, rfl⟩
abbrev main_call0_call0_c_19 : Ref sig .tc := ⟨.hbm, 137, rfl⟩
abbrev main_call0_call0_v77 : Ref sig .tc := ⟨.hbm, 138, rfl⟩
abbrev main_call0_call0_v78 : Ref sig .tc := ⟨.hbm, 139, rfl⟩
abbrev main_call0_call0_v79 : Ref sig .tc := ⟨.hbm, 140, rfl⟩
abbrev main_call0_call0_v80 : Ref sig .tc := ⟨.hbm, 141, rfl⟩
abbrev main_call0_call0_v81 : Ref sig .tc := ⟨.hbm, 142, rfl⟩
abbrev main_call0_call0_c_20 : Ref sig .tc := ⟨.hbm, 143, rfl⟩
abbrev main_call0_call0_v82 : Ref sig .tc := ⟨.hbm, 144, rfl⟩
abbrev main_call0_call0_v83 : Ref sig .tc := ⟨.hbm, 145, rfl⟩
abbrev main_call0_call0_c_21 : Ref sig .tc := ⟨.hbm, 146, rfl⟩
abbrev main_call0_call0_v84 : Ref sig .tc := ⟨.hbm, 147, rfl⟩
abbrev main_call0_call0_v85 : Ref sig .tc := ⟨.hbm, 148, rfl⟩
abbrev main_call0_call0_v86 : Ref sig .tc := ⟨.hbm, 149, rfl⟩
abbrev main_call0_call0_v87 : Ref sig .tc := ⟨.hbm, 150, rfl⟩
abbrev main_call0_call0_v88 : Ref sig .tc := ⟨.hbm, 151, rfl⟩
abbrev main_call0_call0_c_22 : Ref sig .tc := ⟨.hbm, 152, rfl⟩
abbrev main_call0_call0_v89 : Ref sig .tc := ⟨.hbm, 153, rfl⟩
abbrev main_call0_call0_v90 : Ref sig .tc := ⟨.hbm, 154, rfl⟩
abbrev main_call0_call0_c_23 : Ref sig .tc := ⟨.hbm, 155, rfl⟩
abbrev main_call0_call0_v91 : Ref sig .tc := ⟨.hbm, 156, rfl⟩
abbrev main_call0_call0_v92 : Ref sig .tc := ⟨.hbm, 157, rfl⟩
abbrev main_call0_call0_v93 : Ref sig .tc := ⟨.hbm, 158, rfl⟩
abbrev main_call0_call0_v94 : Ref sig .tc := ⟨.hbm, 159, rfl⟩
abbrev main_call0_call0_v95 : Ref sig .tc := ⟨.hbm, 160, rfl⟩
abbrev main_call0_call0_c_24 : Ref sig .tc := ⟨.hbm, 161, rfl⟩
abbrev main_call0_call0_v96 : Ref sig .tc := ⟨.hbm, 162, rfl⟩
abbrev main_call0_call0_v97 : Ref sig .tc := ⟨.hbm, 163, rfl⟩
abbrev main_call0_call0_c_25 : Ref sig .tc := ⟨.hbm, 164, rfl⟩
abbrev main_call0_call0_v98 : Ref sig .tc := ⟨.hbm, 165, rfl⟩
abbrev main_call0_call0_v99 : Ref sig .tc := ⟨.hbm, 166, rfl⟩
abbrev main_call0_call0_v100 : Ref sig .tc := ⟨.hbm, 167, rfl⟩
abbrev main_call0_call0_v101 : Ref sig .tc := ⟨.hbm, 168, rfl⟩
abbrev main_call0_call0_v102 : Ref sig .tc := ⟨.hbm, 169, rfl⟩
abbrev main_call0_call0_v103 : Ref sig .tc := ⟨.hbm, 170, rfl⟩
abbrev main_call0_call0_v104 : Ref sig .tc := ⟨.hbm, 171, rfl⟩
abbrev main_call0_call0_v105 : Ref sig .tc := ⟨.hbm, 172, rfl⟩
abbrev main_call0_call0_c_26 : Ref sig .tc := ⟨.hbm, 173, rfl⟩
abbrev main_call0_call0_v106 : Ref sig .tc := ⟨.hbm, 174, rfl⟩
abbrev main_call0_call0_v107 : Ref sig .tc := ⟨.hbm, 175, rfl⟩
abbrev main_call0_call0_v108 : Ref sig .tc := ⟨.hbm, 176, rfl⟩
abbrev main_call0_call0_c_27 : Ref sig .tc := ⟨.hbm, 177, rfl⟩
abbrev main_call0_call0_v109 : Ref sig .tc := ⟨.hbm, 178, rfl⟩
abbrev main_call0_call0_v110 : Ref sig .tc := ⟨.hbm, 179, rfl⟩
abbrev main_call0_call0_c_28 : Ref sig .tc := ⟨.hbm, 180, rfl⟩
abbrev main_call0_call0_v111 : Ref sig .tc := ⟨.hbm, 181, rfl⟩
abbrev main_call0_call0_v112 : Ref sig .tc := ⟨.hbm, 182, rfl⟩
abbrev main_call0_call0_v113 : Ref sig .tc := ⟨.hbm, 183, rfl⟩
abbrev main_call0_call0_v114 : Ref sig .tc := ⟨.hbm, 184, rfl⟩
abbrev main_call0_call0_v115 : Ref sig .tc := ⟨.hbm, 185, rfl⟩
abbrev main_call0_call0_c_29 : Ref sig .tc := ⟨.hbm, 186, rfl⟩
abbrev main_call0_call0_v116 : Ref sig .tc := ⟨.hbm, 187, rfl⟩
abbrev main_call0_call0_v117 : Ref sig .tc := ⟨.hbm, 188, rfl⟩
abbrev main_call0_call0_c_30 : Ref sig .tc := ⟨.hbm, 189, rfl⟩
abbrev main_call0_call0_v118 : Ref sig .tc := ⟨.hbm, 190, rfl⟩
abbrev main_call0_call0_v119 : Ref sig .tc := ⟨.hbm, 191, rfl⟩
abbrev main_call0_call0_v120 : Ref sig .tc := ⟨.hbm, 192, rfl⟩
abbrev main_call0_call0_v121 : Ref sig .tc := ⟨.hbm, 193, rfl⟩
abbrev main_call0_call0_v122 : Ref sig .tc := ⟨.hbm, 194, rfl⟩
abbrev main_call0_call0_c_31 : Ref sig .tc := ⟨.hbm, 195, rfl⟩
abbrev main_call0_call0_v123 : Ref sig .tc := ⟨.hbm, 196, rfl⟩
abbrev main_call0_call0_v124 : Ref sig .tc := ⟨.hbm, 197, rfl⟩
abbrev main_call0_call0_c_32 : Ref sig .tc := ⟨.hbm, 198, rfl⟩
abbrev main_call0_call0_v125 : Ref sig .tc := ⟨.hbm, 199, rfl⟩
abbrev main_call0_call0_v126 : Ref sig .tc := ⟨.hbm, 200, rfl⟩
abbrev main_call0_call0_v127 : Ref sig .tc := ⟨.hbm, 201, rfl⟩
abbrev main_call0_call0_v128 : Ref sig .tc := ⟨.hbm, 202, rfl⟩
abbrev main_call0_call0_v129 : Ref sig .tc := ⟨.hbm, 203, rfl⟩
abbrev main_call0_call0_c_33 : Ref sig .tc := ⟨.hbm, 204, rfl⟩
abbrev main_call0_call0_v130 : Ref sig .tc := ⟨.hbm, 205, rfl⟩
abbrev main_call0_call0_v131 : Ref sig .tc := ⟨.hbm, 206, rfl⟩
abbrev main_call0_call0_c_34 : Ref sig .tc := ⟨.hbm, 207, rfl⟩
abbrev main_call0_call0_v132 : Ref sig .tc := ⟨.hbm, 208, rfl⟩
abbrev main_call0_call0_v133 : Ref sig .tc := ⟨.hbm, 209, rfl⟩
abbrev main_call0_call0_v134 : Ref sig .tc := ⟨.hbm, 210, rfl⟩
abbrev main_call0_call0_v135 : Ref sig .tc := ⟨.hbm, 211, rfl⟩
abbrev main_call0_call0_v136 : Ref sig .tc := ⟨.hbm, 212, rfl⟩
abbrev main_call0_call0_v137 : Ref sig .tc := ⟨.hbm, 213, rfl⟩
abbrev main_call0_call0_v138 : Ref sig .tc := ⟨.hbm, 214, rfl⟩
abbrev main_call0_call0_v139 : Ref sig .tc := ⟨.hbm, 215, rfl⟩
abbrev main_call0_call0_c_35 : Ref sig .tc := ⟨.hbm, 216, rfl⟩
abbrev main_call0_call0_v140 : Ref sig .tc := ⟨.hbm, 217, rfl⟩
abbrev main_call0_call0_v141 : Ref sig .tc := ⟨.hbm, 218, rfl⟩
abbrev main_call0_call0_v142 : Ref sig .tc := ⟨.hbm, 219, rfl⟩
abbrev main_call0_call0_c_36 : Ref sig .tc := ⟨.hbm, 220, rfl⟩
abbrev main_call0_call0_v143 : Ref sig .tc := ⟨.hbm, 221, rfl⟩
abbrev main_call0_call0_v144 : Ref sig .tc := ⟨.hbm, 222, rfl⟩
abbrev main_call0_call0_c_37 : Ref sig .tc := ⟨.hbm, 223, rfl⟩
abbrev main_call0_call0_v145 : Ref sig .tc := ⟨.hbm, 224, rfl⟩
abbrev main_call0_call0_v146 : Ref sig .tc := ⟨.hbm, 225, rfl⟩
abbrev main_call0_call0_v147 : Ref sig .tc := ⟨.hbm, 226, rfl⟩
abbrev main_call0_call0_v148 : Ref sig .tc := ⟨.hbm, 227, rfl⟩
abbrev main_call0_call0_v149 : Ref sig .tc := ⟨.hbm, 228, rfl⟩
abbrev main_call0_call0_c_38 : Ref sig .tc := ⟨.hbm, 229, rfl⟩
abbrev main_call0_call0_v150 : Ref sig .tc := ⟨.hbm, 230, rfl⟩
abbrev main_call0_call0_v151 : Ref sig .tc := ⟨.hbm, 231, rfl⟩
abbrev main_call0_call0_c_39 : Ref sig .tc := ⟨.hbm, 232, rfl⟩
abbrev main_call0_call0_v152 : Ref sig .tc := ⟨.hbm, 233, rfl⟩
abbrev main_call0_call0_v153 : Ref sig .tc := ⟨.hbm, 234, rfl⟩
abbrev main_call0_call0_v154 : Ref sig .tc := ⟨.hbm, 235, rfl⟩
abbrev main_call0_call0_v155 : Ref sig .tc := ⟨.hbm, 236, rfl⟩
abbrev main_call0_call0_v156 : Ref sig .tc := ⟨.hbm, 237, rfl⟩
abbrev main_call0_call0_c_40 : Ref sig .tc := ⟨.hbm, 238, rfl⟩
abbrev main_call0_call0_v157 : Ref sig .tc := ⟨.hbm, 239, rfl⟩
abbrev main_call0_call0_v158 : Ref sig .tc := ⟨.hbm, 240, rfl⟩
abbrev main_call0_call0_c_41 : Ref sig .tc := ⟨.hbm, 241, rfl⟩
abbrev main_call0_call0_v159 : Ref sig .tc := ⟨.hbm, 242, rfl⟩
abbrev main_call0_call0_v160 : Ref sig .tc := ⟨.hbm, 243, rfl⟩
abbrev main_call0_call0_v161 : Ref sig .tc := ⟨.hbm, 244, rfl⟩
abbrev main_call0_call0_v162 : Ref sig .tc := ⟨.hbm, 245, rfl⟩
abbrev main_call0_call0_v163 : Ref sig .tc := ⟨.hbm, 246, rfl⟩
abbrev main_call0_call0_c_42 : Ref sig .tc := ⟨.hbm, 247, rfl⟩
abbrev main_call0_call0_v164 : Ref sig .tc := ⟨.hbm, 248, rfl⟩
abbrev main_call0_call0_v165 : Ref sig .tc := ⟨.hbm, 249, rfl⟩
abbrev main_call0_call0_c_43 : Ref sig .tc := ⟨.hbm, 250, rfl⟩
abbrev main_call0_call0_v166 : Ref sig .tc := ⟨.hbm, 251, rfl⟩
abbrev main_call0_call0_v167 : Ref sig .tc := ⟨.hbm, 252, rfl⟩
abbrev main_call0_call0_v168 : Ref sig .tc := ⟨.hbm, 253, rfl⟩
abbrev main_call0_call0_v169 : Ref sig .tc := ⟨.hbm, 254, rfl⟩
abbrev main_call0_call0_v170 : Ref sig .tc := ⟨.hbm, 255, rfl⟩
abbrev main_call0_v23_0 : Ref sig .tc := ⟨.hbm, 256, rfl⟩
abbrev main_call0_call0_v172 : Ref sig .tc := ⟨.hbm, 257, rfl⟩
abbrev main_call0_call0_v173 : Ref sig .tc := ⟨.hbm, 258, rfl⟩
abbrev main_call0_call0_c_44 : Ref sig .tc := ⟨.hbm, 259, rfl⟩
abbrev main_call0_call0_v174 : Ref sig .tc := ⟨.hbm, 260, rfl⟩
abbrev main_call0_v23_1 : Ref sig .tc := ⟨.hbm, 261, rfl⟩
abbrev main_call0_v24 : Ref sig .tc := ⟨.hbm, 262, rfl⟩
abbrev main_call0_c_3 : Ref sig .tc := ⟨.hbm, 263, rfl⟩
abbrev main_call0_v25 : Ref sig .tc := ⟨.hbm, 264, rfl⟩
abbrev main_call0_v26 : Ref sig .tc := ⟨.hbm, 265, rfl⟩
abbrev main_call0_c_4 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_cst : Ref sig .tc := ⟨.hbm, 270, rfl⟩
abbrev main_call0_v30 : Ref sig .tc := ⟨.hbm, 271, rfl⟩
abbrev main_call0_v31 : Ref sig .tc := ⟨.hbm, 272, rfl⟩
abbrev main_call0_v32 : Ref sig .tc := ⟨.hbm, 273, rfl⟩
abbrev main_call0_v33 : Ref sig .tc := ⟨.hbm, 274, rfl⟩
abbrev main_call0_v34 : Ref sig .tc := ⟨.hbm, 275, rfl⟩
abbrev main_call0_v35 : Ref sig .tc := ⟨.hbm, 276, rfl⟩
abbrev main_call0_v36 : Ref sig .tc := ⟨.hbm, 277, rfl⟩
abbrev main_call0_v37 : Ref sig .tc := ⟨.hbm, 278, rfl⟩
abbrev main_v7 : Ref sig .tc := ⟨.hbm, 279, rfl⟩
abbrev main_cst_3 : Ref sig .tc := ⟨.hbm, 280, rfl⟩
abbrev main_v8 : Ref sig .tc := ⟨.hbm, 281, rfl⟩
abbrev main_c_4 : Ref sig .tc := ⟨.hbm, 282, rfl⟩
abbrev main_v9 : Ref sig .tc := ⟨.hbm, 283, rfl⟩
abbrev main_cst_5 : Ref sig .tc := ⟨.hbm, 284, rfl⟩
abbrev main_v10 : Ref sig .tc := ⟨.hbm, 285, rfl⟩
abbrev main_v11 : Ref sig .tc := ⟨.hbm, 286, rfl⟩
abbrev main_call1_v0 : Ref sig .tc := ⟨.hbm, 287, rfl⟩
abbrev main_call1_v1_0 : Ref sig .tc := ⟨.hbm, 288, rfl⟩
abbrev main_v12 : Ref sig .tc := ⟨.hbm, 289, rfl⟩
abbrev main_call2_v0 : Ref sig .tc := ⟨.hbm, 290, rfl⟩
abbrev main_call2_v1_0 : Ref sig .tc := ⟨.hbm, 291, rfl⟩
abbrev main_v13 : Ref sig .tc := ⟨.hbm, 292, rfl⟩
abbrev main_call3_c : Ref sig .tc := ⟨.hbm, 293, rfl⟩
abbrev main_call3_v0 : Ref sig .tc := ⟨.hbm, 294, rfl⟩
abbrev main_call3_v1 : Ref sig .tc := ⟨.hbm, 295, rfl⟩
abbrev main_call3_c_0 : Ref sig .tc := ⟨.hbm, 296, rfl⟩
abbrev main_call3_v2 : Ref sig .tc := ⟨.hbm, 297, rfl⟩
abbrev main_call3_v3 : Ref sig .tc := ⟨.hbm, 298, rfl⟩
abbrev main_call3_v4 : Ref sig .tc := ⟨.hbm, 299, rfl⟩
abbrev main_call3_v5 : Ref sig .tc := ⟨.hbm, 300, rfl⟩
abbrev main_call3_c_1 : Ref sig .tc := ⟨.hbm, 301, rfl⟩
abbrev main_call3_c_2 : Ref sig .tc := ⟨.hbm, 302, rfl⟩
abbrev main_call3_v6 : Ref sig .tc := ⟨.hbm, 303, rfl⟩
abbrev main_call3_v7 : Ref sig .tc := ⟨.hbm, 304, rfl⟩
abbrev main_call3_v8 : Ref sig .tc := ⟨.hbm, 305, rfl⟩
abbrev main_call3_v9 : Ref sig .tc := ⟨.hbm, 306, rfl⟩
abbrev main_call3_v10 : Ref sig .tc := ⟨.hbm, 307, rfl⟩
abbrev main_call3_v11 : Ref sig .tc := ⟨.hbm, 308, rfl⟩
abbrev main_call3_c_3 : Ref sig .tc := ⟨.hbm, 309, rfl⟩
abbrev main_call3_v12 : Ref sig .tc := ⟨.hbm, 310, rfl⟩
abbrev main_call3_v13 : Ref sig .tc := ⟨.hbm, 311, rfl⟩
abbrev main_call3_cst : Ref sig .tc := ⟨.hbm, 312, rfl⟩
abbrev main_call3_v14 : Ref sig .tc := ⟨.hbm, 313, rfl⟩
abbrev main_v14 : Ref sig .tc := ⟨.hbm, 314, rfl⟩
abbrev main_v15 : Ref sig .tc := ⟨.hbm, 315, rfl⟩
abbrev main_v16 : Ref sig .tc := ⟨.hbm, 316, rfl⟩
abbrev main_cst_6 : Ref sig .tc := ⟨.hbm, 317, rfl⟩
abbrev main_v17 : Ref sig .tc := ⟨.hbm, 318, rfl⟩
abbrev main_v18 : Ref sig .tc := ⟨.hbm, 319, rfl⟩
abbrev main_v19 : Ref sig .tc := ⟨.hbm, 320, rfl⟩
abbrev main_cst_7 : Ref sig .tc := ⟨.hbm, 321, rfl⟩
abbrev main_call4_v0 : Ref sig .tc := ⟨.hbm, 322, rfl⟩
abbrev main_v20 : Ref sig .tc := ⟨.hbm, 323, rfl⟩
abbrev main_cst_8 : Ref sig .tc := ⟨.hbm, 324, rfl⟩
abbrev main_v21 : Ref sig .tc := ⟨.hbm, 325, rfl⟩
abbrev main_v22 : Ref sig .tc := ⟨.hbm, 326, rfl⟩
abbrev main_v23 : Ref sig .tc := ⟨.hbm, 327, rfl⟩

abbrev nD : Nat := 1
abbrev τ : Topo := Topo.v7x

variable {F : FTy → Type} [FloatOps F]
-- ==== Proof.RefRun.lean ====
/-
  The reference's run. Its `main` is a straight line of host operations with four functions called from it; here the line
  of operations is found part by part, and every run ends with each buffer at the line's contents.
-/
module

public import proofs.«01_k».proof.ReferenceIdeal
public import proofs.«01_k».proof.Proof.Gen.ReferenceIdeal
public import Idealize.ShloMosaic.Lib.StableHlo.RunRead
public import Idealize.ShloMosaic.Lib.Quiescent

@[expose] public section

set_option maxRecDepth 16384

noncomputable section

namespace Cert.ReferenceIdeal.Hand

open Cert.ReferenceIdeal
open Idealize.ShloMosaic Idealize.SL.Sem Idealize.ShloMosaic.StableHlo

variable {F : FTy → Type} [FloatOps F] [Facts]

section Line
variable {Val : EltTy → Type} {Λ : Labels}

/-- `p` performs the operations `l` in order, and they touch TensorCore buffers alone. -/
def Line (p : Prog (TpuEff nD τ sig Val Λ .tc) PUnit) (l : List (HloOp τ sig Val)) : Prop :=
  p = seq l ∧ l.Forall fun op => op.bufs ⊆ tcRefs τ sig

/-- An operation of one operand touches TensorCore buffers alone. -/
theorem subU {A B : BufTy} (a : TRef sig A) (b : TRef sig B) (f) : (TRef.unary (τ := τ) (Val := Val) a b f).bufs ⊆ tcRefs τ sig := unary_bufs_sub ..
/-- So does one of two operands. -/
theorem subB {A B C : BufTy} (a : TRef sig A) (b : TRef sig B) (c : TRef sig C) (f) :
    (TRef.binary (τ := τ) (Val := Val) a b c f).bufs ⊆ tcRefs τ sig := binary_bufs_sub ..
/-- So does one of none. -/
theorem subN {A : BufTy} (a : TRef sig A) (f) : (TRef.nullary (τ := τ) (Val := Val) a f).bufs ⊆ tcRefs τ sig := nullary_bufs_sub ..
/-- So does one of three. -/
theorem subT {A B C D : BufTy} (a : TRef sig A) (b : TRef sig B) (c : TRef sig C) (d : TRef sig D) (f) :
    (TRef.ternary (τ := τ) (Val := Val) a b c d f).bufs ⊆ tcRefs τ sig := ternary_bufs_sub ..
theorem subR {A B : BufTy} (a : TRef sig A) (b : TRef sig B) (he hn) :
    (TRef.reshape (τ := τ) (Val := Val) a b he hn).bufs ⊆ tcRefs τ sig := reshape_bufs_sub ..

/-- Nothing more to do is the empty line. -/
theorem line_ret : Line (pure ⟨⟩ : Prog (TpuEff nD τ sig Val Λ .tc) PUnit) [] := ⟨rfl, trivial⟩
/-- One operation, then a line. -/
theorem line_op {op : HloOp τ sig Val} {k : Prog (TpuEff nD τ sig Val Λ .tc) PUnit} {l : List (HloOp τ sig Val)} (h : Line k l)
    (hs : op.bufs ⊆ tcRefs τ sig) :
    Line ((hlo rfl op fun _ => .ret (⟨⟩ : PUnit)) >>= fun _ => k) (op :: l) :=
  ⟨by rw [h.1]; rfl, (List.forall_cons _ _ _).mpr ⟨hs, h.2⟩⟩
/-- One operation alone. -/
theorem line_last {op : HloOp τ sig Val}
    (hs : op.bufs ⊆ tcRefs τ sig) :
    Line ((hlo rfl op fun _ => .ret (⟨⟩ : PUnit)) : Prog (TpuEff nD τ sig Val Λ .tc) PUnit) [op] := ⟨rfl, hs⟩
/-- A called line, then a line. -/
theorem line_call {p k : Prog (TpuEff nD τ sig Val Λ .tc) PUnit} {l₁ l₂ : List (HloOp τ sig Val)} (hp : Line p l₁) (h : Line k l₂) :
    Line (p >>= fun _ => k) (l₁ ++ l₂) := ⟨by rw [hp.1, h.1, seq_append], List.forall_append.mpr ⟨hp.2, h.2⟩⟩

end Line

/-- The operations of the generator's rounds, part 0. -/
def tf0 (a0 a1 : TRef sig ⟨S_, .i32⟩) (a2 a3 : TRef sig ⟨S32x16x512, .i32⟩) (φ : fn_threefry2x32.Bufs) :
    { l : List (HloOp τ sig (Elt F)) // Line (fn_threefry2x32.body_part0 (F := F) a0 a1 a2 a3 φ) l } := by
  refine ⟨?_, ?_⟩; rotate_left
  · unfold fn_threefry2x32.body_part0
    repeat (first | (refine line_op (l := ?_) ?_ ?_; rotate_left 2; (with_reducible (first | exact subU .. | exact subB .. | exact subN .. | exact subT .. | exact subR .. | exact unary_bufs_sub .. | exact binary_bufs_sub .. | exact nullary_bufs_sub .. | exact ternary_bufs_sub ..)); rotate_left) | exact line_ret | exact line_last (by with_reducible (first | exact subU .. | exact subB ..)))

/-- The operations of the generator's rounds, part 1. -/
def tf1 (a0 a1 : TRef sig ⟨S_, .i32⟩) (a2 a3 : TRef sig ⟨S32x16x512, .i32⟩) (φ : fn_threefry2x32.Bufs) :
    { l : List (HloOp τ sig (Elt F)) // Line (fn_threefry2x32.body_part1 (F := F) a0 a1 a2 a3 φ) l } := by
  refine ⟨?_, ?_⟩; rotate_left
  · unfold fn_threefry2x32.body_part1
    repeat (first | (refine line_op (l := ?_) ?_ ?_; rotate_left 2; (with_reducible (first | exact subU .. | exact subB .. | exact subN .. | exact subT .. | exact subR .. | exact unary_bufs_sub .. | exact binary_bufs_sub .. | exact nullary_bufs_sub .. | exact ternary_bufs_sub ..)); rotate_left) | exact line_ret | exact line_last (by with_reducible (first | exact subU .. | exact subB ..)))

/-- The operations of the generator's rounds, part 2. -/
def tf2 (a0 a1 : TRef sig ⟨S_, .i32⟩) (a2 a3 : TRef sig ⟨S32x16x512, .i32⟩) (φ : fn_threefry2x32.Bufs) :
    { l : List (HloOp τ sig (Elt F)) // Line (fn_threefry2x32.body_part2 (F := F) a0 a1 a2 a3 φ) l } := by
  refine ⟨?_, ?_⟩; rotate_left
  · unfold fn_threefry2x32.body_part2
    repeat (first | (refine line_op (l := ?_) ?_ ?_; rotate_left 2; (with_reducible (first | exact subU .. | exact subB .. | exact subN .. | exact subT .. | exact subR .. | exact unary_bufs_sub .. | exact binary_bufs_sub .. | exact nullary_bufs_sub .. | exact ternary_bufs_sub ..)); rotate_left) | exact line_ret | exact line_last (by with_reducible (first | exact subU .. | exact subB ..)))

/-- The operations of the generator's rounds, part 3. -/
def tf3 (a0 a1 : TRef sig ⟨S_, .i32⟩) (a2 a3 : TRef sig ⟨S32x16x512, .i32⟩) (φ : fn_threefry2x32.Bufs) :
    { l : List (HloOp τ sig (Elt F)) // Line (fn_threefry2x32.body_part3 (F := F) a0 a1 a2 a3 φ) l } := by
  refine ⟨?_, ?_⟩; rotate_left
  · unfold fn_threefry2x32.body_part3
    repeat (first | (refine line_op (l := ?_) ?_ ?_; rotate_left 2; (with_reducible (first | exact subU .. | exact subB .. | exact subN .. | exact subT .. | exact subR .. | exact unary_bufs_sub .. | exact binary_bufs_sub .. | exact nullary_bufs_sub .. | exact ternary_bufs_sub ..)); rotate_left) | exact line_ret | exact line_last (by with_reducible (first | exact subU .. | exact subB ..)))

/-- The operations of the generator's rounds. -/
def tf (a0 a1 : TRef sig ⟨S_, .i32⟩) (a2 a3 : TRef sig ⟨S32x16x512, .i32⟩) (φ : fn_threefry2x32.Bufs) :
    { l : List (HloOp τ sig (Elt F)) // Line (fn_threefry2x32.body (F := F) a0 a1 a2 a3 φ) l } :=
  ⟨(tf0 a0 a1 a2 a3 φ).1 ++ ((tf1 a0 a1 a2 a3 φ).1 ++ ((tf2 a0 a1 a2 a3 φ).1 ++ (tf3 a0 a1 a2 a3 φ).1)),
    line_call (tf0 a0 a1 a2 a3 φ).2 (line_call (tf1 a0 a1 a2 a3 φ).2 (line_call (tf2 a0 a1 a2 a3 φ).2 (tf3 a0 a1 a2 a3 φ).2))⟩

/-- The operations of the uniform draw. -/
def uni (a0 : TRef sig ⟨S2, .i32⟩) (a1 a2 : TRef sig ⟨S_, .f32⟩) (φ : fn_uniform.Bufs) :
    { l : List (HloOp τ sig (Elt F)) // Line (fn_uniform.body (F := F) a0 a1 a2 φ) l } := by
  refine ⟨?_, ?_⟩; rotate_left
  · unfold fn_uniform.body
    repeat (first | (refine line_op (l := ?_) ?_ ?_; rotate_left 2; (with_reducible (first | exact subU .. | exact subB .. | exact subN .. | exact subT .. | exact subR .. | exact unary_bufs_sub .. | exact binary_bufs_sub .. | exact nullary_bufs_sub .. | exact ternary_bufs_sub ..)); rotate_left) | (refine line_call (l₂ := ?_) (tf _ _ _ _ _).2 ?_; rotate_left) | exact line_ret)

/-- The operations of the first sort. -/
def srt (a0 : TRef sig ⟨S32x16x512, .f32⟩) (φ : fn_argsort.Bufs) :
    { l : List (HloOp τ sig (Elt F)) // Line (fn_argsort.body (F := F) a0 φ) l } := by
  refine ⟨?_, ?_⟩; rotate_left
  · unfold fn_argsort.body
    repeat (first | (refine line_op (l := ?_) ?_ ?_; rotate_left 2; (with_reducible (first | exact subU .. | exact subB .. | exact subN .. | exact subT .. | exact subR .. | exact unary_bufs_sub .. | exact binary_bufs_sub .. | exact nullary_bufs_sub .. | exact ternary_bufs_sub ..)); rotate_left) | exact line_ret)

/-- The operations of the second sort. -/
def srt0 (a0 : TRef sig ⟨S32x16x512, .i32⟩) (φ : fn_argsort_0.Bufs) :
    { l : List (HloOp τ sig (Elt F)) // Line (fn_argsort_0.body (F := F) a0 φ) l } := by
  refine ⟨?_, ?_⟩; rotate_left
  · unfold fn_argsort_0.body
    repeat (first | (refine line_op (l := ?_) ?_ ?_; rotate_left 2; (with_reducible (first | exact subU .. | exact subB .. | exact subN .. | exact subT .. | exact subR .. | exact unary_bufs_sub .. | exact binary_bufs_sub .. | exact nullary_bufs_sub .. | exact ternary_bufs_sub ..)); rotate_left) | exact line_ret)

/-- The operations of the gather along the last axis. -/
def gth (a0 : TRef sig ⟨S32x16x512, .f32⟩) (a1 : TRef sig ⟨S32x16x512, .i32⟩) (φ : fn_take_along_axis.Bufs) :
    { l : List (HloOp τ sig (Elt F)) // Line (fn_take_along_axis.body (F := F) a0 a1 φ) l } := by
  refine ⟨?_, ?_⟩; rotate_left
  · unfold fn_take_along_axis.body
    repeat (first | (refine line_op (l := ?_) ?_ ?_; rotate_left 2; (with_reducible (first | exact subU .. | exact subB .. | exact subN .. | exact subT .. | exact subR .. | exact unary_bufs_sub .. | exact binary_bufs_sub .. | exact nullary_bufs_sub .. | exact ternary_bufs_sub ..)); rotate_left) | exact line_ret)

/-- The operations of the choice. -/
def whr (a0 : TRef sig ⟨S32x16x512x64, .i1⟩) (a1 : TRef sig ⟨S_, .f32⟩) (a2 : TRef sig ⟨S32x16x512x64, .f32⟩) (φ : fn_where.Bufs) :
    { l : List (HloOp τ sig (Elt F)) // Line (fn_where.body (F := F) a0 a1 a2 φ) l } := by
  refine ⟨?_, ?_⟩; rotate_left
  · unfold fn_where.body
    repeat (first | (refine line_op (l := ?_) ?_ ?_; rotate_left 2; (with_reducible (first | exact subU .. | exact subB .. | exact subN .. | exact subT .. | exact subR .. | exact unary_bufs_sub .. | exact binary_bufs_sub .. | exact nullary_bufs_sub .. | exact ternary_bufs_sub ..)); rotate_left) | exact line_ret)

/-- The operations of `main`. -/
def mainLine (c : Dev nD) : { l : List (HloOp τ sig (Elt F)) // Line (main (F := F) c) l } := by
  refine ⟨?_, ?_⟩; rotate_left
  · unfold main
    repeat (first
      | (refine line_op (l := ?_) ?_ ?_; rotate_left 2; (with_reducible (first | exact subU .. | exact subB .. | exact subN .. | exact subT .. | exact subR .. | exact unary_bufs_sub .. | exact binary_bufs_sub .. | exact nullary_bufs_sub .. | exact ternary_bufs_sub ..)); rotate_left)
      | (refine line_call (l₂ := ?_) (uni _ _ _ _).2 ?_; rotate_left)
      | (refine line_call (l₂ := ?_) (srt _ _).2 ?_; rotate_left)
      | (refine line_call (l₂ := ?_) (srt0 _ _).2 ?_; rotate_left)
      | (refine line_call (l₂ := ?_) (gth _ _ _).2 ?_; rotate_left)
      | (refine line_call (l₂ := ?_) (whr _ _ _ _).2 ?_; rotate_left)
      | exact line_ret)

/-- The line on the one device. -/
def ops : List (HloOp τ sig (Elt F)) := (mainLine (F := F) ⟨0, by decide⟩).1

/-- So does the whole line. -/
theorem ops_sub : (ops (F := F)).Forall fun op => op.bufs ⊆ tcRefs τ sig := (mainLine (F := F) ⟨0, by decide⟩).2.2

/-- No operation of the line allocates. -/
theorem ops_fresh : (ops (F := F)).Forall fun op => op.fresh = ∅ :=
  forall_fresh_of_map rfl

/-- Every run of the reference ends with each buffer at the line's contents, and every semaphore at zero. -/
theorem run (m : (ℓ : Loc nD τ sig) → Buf (Elt F) ℓ) (ρ : Dev nD → PrngReg) :
    θ_run (defs (F := F)) (onTc (τ := τ) (main (F := F))) ⟨m, fun _ => 0, ρ⟩ fun r =>
      (∀ (d : Dev nD) (b : Ref sig .tc), r.2.mem ((d.tc : Thread nD τ).loc b) = after ops (launchContents m d) (Proc.devRef .tc b))
      ∧ r.2.sem = fun _ => 0 :=
  (θ_run _ _ _).mono (fun r h => ⟨h, sem_eq_zero_of_no_sems (by decide) r.2⟩)
    (run_seq (by decide) (by decide) defs main (fun _ => ops) (fun d => by
        obtain rfl : d = ⟨0, by decide⟩ := Subsingleton.elim _ _
        exact (mainLine _).2.1)
      (fun _ => ops_sub) m ρ fun _ op h => (List.forall_iff_forall_mem.mp ops_fresh) op h)

end Cert.ReferenceIdeal.Hand

end
-- ==== Proof.Noise.lean ====
/-
  The two programs draw the same noise: both print one generator, on one key, as one line of host operations under their own
  names. The lines are compared in pieces, each cut where few buffers are still to be read.
-/
module

public import proofs.«01_k».proof.Proof.RefRun
public import proofs.«01_k».proof.Proof.Gen.KernelIdeal.Launch

@[expose] public section

set_option maxRecDepth 16384

noncomputable section

namespace Cert.Noise

open Idealize.ShloMosaic Idealize.SL.Sem Idealize.ShloMosaic.StableHlo

variable {F : FTy → Type} [FloatOps F] [Cert.ReferenceIdeal.Facts]

/-- The kernel program's line up to the noise. -/
abbrev kOps : List (HloOp KernelIdeal.τ KernelIdeal.sig (Elt F)) := KernelIdeal.Gen.hostOps0 ++ KernelIdeal.Gen.hostOps0_1
/-- The reference's line. -/
abbrev rOps : List (HloOp ReferenceIdeal.τ ReferenceIdeal.sig (Elt F)) := ReferenceIdeal.Hand.ops

/-- Contents of the kernel program's buffers on the device, and of the reference's. -/
abbrev KVal (F : FTy → Type) := Valuation KernelIdeal.τ KernelIdeal.sig (Elt F)
/-- The contents of the reference's buffers. -/
abbrev RVal (F : FTy → Type) := Valuation ReferenceIdeal.τ ReferenceIdeal.sig (Elt F)

/-- One line cut at `a`: the first `a + n` operations are the first `a`, then the next `n`. -/
theorem after_cut {τ : Topo} {sig : RefSig} {Val : EltTy → Type} (ops : List (HloOp τ sig Val)) (a n : ℕ) (V : Valuation τ sig Val) :
    after (ops.take (a + n)) V = after ((ops.drop a).take n) (after (ops.take a) V) := by
  rw [List.take_add]
  generalize ops.take a = l₁
  induction l₁ generalizing V with
  | nil => rfl
  | cons op l ih => exact ih _

set_option maxHeartbeats 2000000 in
/-- After the key's words and the counter's two halves with the key added the buffers still to be read agree, the ones before the piece agreeing. -/
theorem piece_46 (V : KVal F) (W : RVal F) :
    after ((kOps.drop 0).take 46) V (Proc.devRef .tc KernelIdeal.main_call0_call0_v3) = after ((rOps.drop 0).take 46) W (Proc.devRef .tc ReferenceIdeal.main_call0_call0_v3)
    ∧ after ((kOps.drop 0).take 46) V (Proc.devRef .tc KernelIdeal.main_call0_call0_v5) = after ((rOps.drop 0).take 46) W (Proc.devRef .tc ReferenceIdeal.main_call0_call0_v5)
    ∧ after ((kOps.drop 0).take 46) V (Proc.devRef .tc KernelIdeal.main_call0_v7) = after ((rOps.drop 0).take 46) W (Proc.devRef .tc ReferenceIdeal.main_call0_v7)
    ∧ after ((kOps.drop 0).take 46) V (Proc.devRef .tc KernelIdeal.main_call0_call0_v1) = after ((rOps.drop 0).take 46) W (Proc.devRef .tc ReferenceIdeal.main_call0_call0_v1)
    ∧ after ((kOps.drop 0).take 46) V (Proc.devRef .tc KernelIdeal.main_call0_v5) = after ((rOps.drop 0).take 46) W (Proc.devRef .tc ReferenceIdeal.main_call0_v5)
    ∧ after ((kOps.drop 0).take 46) V (Proc.devRef .tc KernelIdeal.main_call0_v3) = after ((rOps.drop 0).take 46) W (Proc.devRef .tc ReferenceIdeal.main_call0_v3)
    ∧ after ((kOps.drop 0).take 46) V (Proc.devRef .tc KernelIdeal.main_call0_v2) = after ((rOps.drop 0).take 46) W (Proc.devRef .tc ReferenceIdeal.main_call0_v2) := by
  refine ⟨?_, ?_, ?_, ?_, ?_, ?_, ?_⟩ <;>
  · after_reads_simp
    try simp only [TRef.ofBuf_toBuf]
    try rfl

set_option maxHeartbeats 2000000 in
/-- After four rounds the buffers still to be read agree, the ones before the piece agreeing. -/
theorem piece_89 (V : KVal F) (W : RVal F)
    (h_tv3 : V (Proc.devRef .tc KernelIdeal.main_call0_call0_v3) = W (Proc.devRef .tc ReferenceIdeal.main_call0_call0_v3))
    (h_tv5 : V (Proc.devRef .tc KernelIdeal.main_call0_call0_v5) = W (Proc.devRef .tc ReferenceIdeal.main_call0_call0_v5))
    (h_uv7 : V (Proc.devRef .tc KernelIdeal.main_call0_v7) = W (Proc.devRef .tc ReferenceIdeal.main_call0_v7))
    (h_tv1 : V (Proc.devRef .tc KernelIdeal.main_call0_call0_v1) = W (Proc.devRef .tc ReferenceIdeal.main_call0_call0_v1))
    (h_uv5 : V (Proc.devRef .tc KernelIdeal.main_call0_v5) = W (Proc.devRef .tc ReferenceIdeal.main_call0_v5))
    (h_uv3 : V (Proc.devRef .tc KernelIdeal.main_call0_v3) = W (Proc.devRef .tc ReferenceIdeal.main_call0_v3))
    (h_uv2 : V (Proc.devRef .tc KernelIdeal.main_call0_v2) = W (Proc.devRef .tc ReferenceIdeal.main_call0_v2)) :
    after ((kOps.drop 46).take 43) V (Proc.devRef .tc KernelIdeal.main_call0_call0_v35) = after ((rOps.drop 46).take 43) W (Proc.devRef .tc ReferenceIdeal.main_call0_call0_v35)
    ∧ after ((kOps.drop 46).take 43) V (Proc.devRef .tc KernelIdeal.main_call0_call0_v39) = after ((rOps.drop 46).take 43) W (Proc.devRef .tc ReferenceIdeal.main_call0_call0_v39)
    ∧ after ((kOps.drop 46).take 43) V (Proc.devRef .tc KernelIdeal.main_call0_call0_v1) = after ((rOps.drop 46).take 43) W (Proc.devRef .tc ReferenceIdeal.main_call0_call0_v1)
    ∧ after ((kOps.drop 46).take 43) V (Proc.devRef .tc KernelIdeal.main_call0_v5) = after ((rOps.drop 46).take 43) W (Proc.devRef .tc ReferenceIdeal.main_call0_v5)
    ∧ after ((kOps.drop 46).take 43) V (Proc.devRef .tc KernelIdeal.main_call0_v7) = after ((rOps.drop 46).take 43) W (Proc.devRef .tc ReferenceIdeal.main_call0_v7)
    ∧ after ((kOps.drop 46).take 43) V (Proc.devRef .tc KernelIdeal.main_call0_v3) = after ((rOps.drop 46).take 43) W (Proc.devRef .tc ReferenceIdeal.main_call0_v3)
    ∧ after ((kOps.drop 46).take 43) V (Proc.devRef .tc KernelIdeal.main_call0_v2) = after ((rOps.drop 46).take 43) W (Proc.devRef .tc ReferenceIdeal.main_call0_v2) := by
  refine ⟨?_, ?_, ?_, ?_, ?_, ?_, ?_⟩ <;>
  · after_reads_simp
    try simp only [TRef.ofBuf_toBuf]
    try rw [h_tv3]
    try rw [h_tv5]
    try rw [h_uv7]
    try rw [h_tv1]
    try rw [h_uv5]
    try rw [h_uv3]
    try rw [h_uv2]
    try rfl

set_option maxHeartbeats 2000000 in
/-- After eight rounds the buffers still to be read agree, the ones before the piece agreeing. -/
theorem piece_132 (V : KVal F) (W : RVal F)
    (h_tv35 : V (Proc.devRef .tc KernelIdeal.main_call0_call0_v35) = W (Proc.devRef .tc ReferenceIdeal.main_call0_call0_v35))
    (h_tv39 : V (Proc.devRef .tc KernelIdeal.main_call0_call0_v39) = W (Proc.devRef .tc ReferenceIdeal.main_call0_call0_v39))
    (h_tv1 : V (Proc.devRef .tc KernelIdeal.main_call0_call0_v1) = W (Proc.devRef .tc ReferenceIdeal.main_call0_call0_v1))
    (h_uv5 : V (Proc.devRef .tc KernelIdeal.main_call0_v5) = W (Proc.devRef .tc ReferenceIdeal.main_call0_v5))
    (h_uv7 : V (Proc.devRef .tc KernelIdeal.main_call0_v7) = W (Proc.devRef .tc ReferenceIdeal.main_call0_v7))
    (h_uv3 : V (Proc.devRef .tc KernelIdeal.main_call0_v3) = W (Proc.devRef .tc ReferenceIdeal.main_call0_v3))
    (h_uv2 : V (Proc.devRef .tc KernelIdeal.main_call0_v2) = W (Proc.devRef .tc ReferenceIdeal.main_call0_v2)) :
    after ((kOps.drop 89).take 43) V (Proc.devRef .tc KernelIdeal.main_call0_call0_v69) = after ((rOps.drop 89).take 43) W (Proc.devRef .tc ReferenceIdeal.main_call0_call0_v69)
    ∧ after ((kOps.drop 89).take 43) V (Proc.devRef .tc KernelIdeal.main_call0_call0_v73) = after ((rOps.drop 89).take 43) W (Proc.devRef .tc ReferenceIdeal.main_call0_call0_v73)
    ∧ after ((kOps.drop 89).take 43) V (Proc.devRef .tc KernelIdeal.main_call0_v5) = after ((rOps.drop 89).take 43) W (Proc.devRef .tc ReferenceIdeal.main_call0_v5)
    ∧ after ((kOps.drop 89).take 43) V (Proc.devRef .tc KernelIdeal.main_call0_v7) = after ((rOps.drop 89).take 43) W (Proc.devRef .tc ReferenceIdeal.main_call0_v7)
    ∧ after ((kOps.drop 89).take 43) V (Proc.devRef .tc KernelIdeal.main_call0_call0_v1) = after ((rOps.drop 89).take 43) W (Proc.devRef .tc ReferenceIdeal.main_call0_call0_v1)
    ∧ after ((kOps.drop 89).take 43) V (Proc.devRef .tc KernelIdeal.main_call0_v3) = after ((rOps.drop 89).take 43) W (Proc.devRef .tc ReferenceIdeal.main_call0_v3)
    ∧ after ((kOps.drop 89).take 43) V (Proc.devRef .tc KernelIdeal.main_call0_v2) = after ((rOps.drop 89).take 43) W (Proc.devRef .tc ReferenceIdeal.main_call0_v2) := by
  refine ⟨?_, ?_, ?_, ?_, ?_, ?_, ?_⟩ <;>
  · after_reads_simp
    try simp only [TRef.ofBuf_toBuf]
    try rw [h_tv35]
    try rw [h_tv39]
    try rw [h_tv1]
    try rw [h_uv5]
    try rw [h_uv7]
    try rw [h_uv3]
    try rw [h_uv2]
    try rfl

set_option maxHeartbeats 2000000 in
/-- After twelve rounds the buffers still to be read agree, the ones before the piece agreeing. -/
theorem piece_175 (V : KVal F) (W : RVal F)
    (h_tv69 : V (Proc.devRef .tc KernelIdeal.main_call0_call0_v69) = W (Proc.devRef .tc ReferenceIdeal.main_call0_call0_v69))
    (h_tv73 : V (Proc.devRef .tc KernelIdeal.main_call0_call0_v73) = W (Proc.devRef .tc ReferenceIdeal.main_call0_call0_v73))
    (h_uv5 : V (Proc.devRef .tc KernelIdeal.main_call0_v5) = W (Proc.devRef .tc ReferenceIdeal.main_call0_v5))
    (h_uv7 : V (Proc.devRef .tc KernelIdeal.main_call0_v7) = W (Proc.devRef .tc ReferenceIdeal.main_call0_v7))
    (h_tv1 : V (Proc.devRef .tc KernelIdeal.main_call0_call0_v1) = W (Proc.devRef .tc ReferenceIdeal.main_call0_call0_v1))
    (h_uv3 : V (Proc.devRef .tc KernelIdeal.main_call0_v3) = W (Proc.devRef .tc ReferenceIdeal.main_call0_v3))
    (h_uv2 : V (Proc.devRef .tc KernelIdeal.main_call0_v2) = W (Proc.devRef .tc ReferenceIdeal.main_call0_v2)) :
    after ((kOps.drop 132).take 43) V (Proc.devRef .tc KernelIdeal.main_call0_call0_v103) = after ((rOps.drop 132).take 43) W (Proc.devRef .tc ReferenceIdeal.main_call0_call0_v103)
    ∧ after ((kOps.drop 132).take 43) V (Proc.devRef .tc KernelIdeal.main_call0_call0_v107) = after ((rOps.drop 132).take 43) W (Proc.devRef .tc ReferenceIdeal.main_call0_call0_v107)
    ∧ after ((kOps.drop 132).take 43) V (Proc.devRef .tc KernelIdeal.main_call0_v7) = after ((rOps.drop 132).take 43) W (Proc.devRef .tc ReferenceIdeal.main_call0_v7)
    ∧ after ((kOps.drop 132).take 43) V (Proc.devRef .tc KernelIdeal.main_call0_call0_v1) = after ((rOps.drop 132).take 43) W (Proc.devRef .tc ReferenceIdeal.main_call0_call0_v1)
    ∧ after ((kOps.drop 132).take 43) V (Proc.devRef .tc KernelIdeal.main_call0_v5) = after ((rOps.drop 132).take 43) W (Proc.devRef .tc ReferenceIdeal.main_call0_v5)
    ∧ after ((kOps.drop 132).take 43) V (Proc.devRef .tc KernelIdeal.main_call0_v3) = after ((rOps.drop 132).take 43) W (Proc.devRef .tc ReferenceIdeal.main_call0_v3)
    ∧ after ((kOps.drop 132).take 43) V (Proc.devRef .tc KernelIdeal.main_call0_v2) = after ((rOps.drop 132).take 43) W (Proc.devRef .tc ReferenceIdeal.main_call0_v2) := by
  refine ⟨?_, ?_, ?_, ?_, ?_, ?_, ?_⟩ <;>
  · after_reads_simp
    try simp only [TRef.ofBuf_toBuf]
    try rw [h_tv69]
    try rw [h_tv73]
    try rw [h_uv5]
    try rw [h_uv7]
    try rw [h_tv1]
    try rw [h_uv3]
    try rw [h_uv2]
    try rfl

set_option maxHeartbeats 2000000 in
/-- After sixteen rounds the buffers still to be read agree, the ones before the piece agreeing. -/
theorem piece_218 (V : KVal F) (W : RVal F)
    (h_tv103 : V (Proc.devRef .tc KernelIdeal.main_call0_call0_v103) = W (Proc.devRef .tc ReferenceIdeal.main_call0_call0_v103))
    (h_tv107 : V (Proc.devRef .tc KernelIdeal.main_call0_call0_v107) = W (Proc.devRef .tc ReferenceIdeal.main_call0_call0_v107))
    (h_uv7 : V (Proc.devRef .tc KernelIdeal.main_call0_v7) = W (Proc.devRef .tc ReferenceIdeal.main_call0_v7))
    (h_tv1 : V (Proc.devRef .tc KernelIdeal.main_call0_call0_v1) = W (Proc.devRef .tc ReferenceIdeal.main_call0_call0_v1))
    (h_uv5 : V (Proc.devRef .tc KernelIdeal.main_call0_v5) = W (Proc.devRef .tc ReferenceIdeal.main_call0_v5))
    (h_uv3 : V (Proc.devRef .tc KernelIdeal.main_call0_v3) = W (Proc.devRef .tc ReferenceIdeal.main_call0_v3))
    (h_uv2 : V (Proc.devRef .tc KernelIdeal.main_call0_v2) = W (Proc.devRef .tc ReferenceIdeal.main_call0_v2)) :
    after ((kOps.drop 175).take 43) V (Proc.devRef .tc KernelIdeal.main_call0_call0_v137) = after ((rOps.drop 175).take 43) W (Proc.devRef .tc ReferenceIdeal.main_call0_call0_v137)
    ∧ after ((kOps.drop 175).take 43) V (Proc.devRef .tc KernelIdeal.main_call0_call0_v141) = after ((rOps.drop 175).take 43) W (Proc.devRef .tc ReferenceIdeal.main_call0_call0_v141)
    ∧ after ((kOps.drop 175).take 43) V (Proc.devRef .tc KernelIdeal.main_call0_call0_v1) = after ((rOps.drop 175).take 43) W (Proc.devRef .tc ReferenceIdeal.main_call0_call0_v1)
    ∧ after ((kOps.drop 175).take 43) V (Proc.devRef .tc KernelIdeal.main_call0_v5) = after ((rOps.drop 175).take 43) W (Proc.devRef .tc ReferenceIdeal.main_call0_v5)
    ∧ after ((kOps.drop 175).take 43) V (Proc.devRef .tc KernelIdeal.main_call0_v3) = after ((rOps.drop 175).take 43) W (Proc.devRef .tc ReferenceIdeal.main_call0_v3)
    ∧ after ((kOps.drop 175).take 43) V (Proc.devRef .tc KernelIdeal.main_call0_v2) = after ((rOps.drop 175).take 43) W (Proc.devRef .tc ReferenceIdeal.main_call0_v2) := by
  refine ⟨?_, ?_, ?_, ?_, ?_, ?_⟩ <;>
  · after_reads_simp
    try simp only [TRef.ofBuf_toBuf]
    try rw [h_tv103]
    try rw [h_tv107]
    try rw [h_uv7]
    try rw [h_tv1]
    try rw [h_uv5]
    try rw [h_uv3]
    try rw [h_uv2]
    try rfl

set_option maxHeartbeats 2000000 in
/-- After all twenty rounds the buffers still to be read agree, the ones before the piece agreeing. -/
theorem piece_261 (V : KVal F) (W : RVal F)
    (h_tv137 : V (Proc.devRef .tc KernelIdeal.main_call0_call0_v137) = W (Proc.devRef .tc ReferenceIdeal.main_call0_call0_v137))
    (h_tv141 : V (Proc.devRef .tc KernelIdeal.main_call0_call0_v141) = W (Proc.devRef .tc ReferenceIdeal.main_call0_call0_v141))
    (h_tv1 : V (Proc.devRef .tc KernelIdeal.main_call0_call0_v1) = W (Proc.devRef .tc ReferenceIdeal.main_call0_call0_v1))
    (h_uv5 : V (Proc.devRef .tc KernelIdeal.main_call0_v5) = W (Proc.devRef .tc ReferenceIdeal.main_call0_v5))
    (h_uv3 : V (Proc.devRef .tc KernelIdeal.main_call0_v3) = W (Proc.devRef .tc ReferenceIdeal.main_call0_v3))
    (h_uv2 : V (Proc.devRef .tc KernelIdeal.main_call0_v2) = W (Proc.devRef .tc ReferenceIdeal.main_call0_v2)) :
    after ((kOps.drop 218).take 43) V (Proc.devRef .tc KernelIdeal.main_call0_v23_0) = after ((rOps.drop 218).take 43) W (Proc.devRef .tc ReferenceIdeal.main_call0_v23_0)
    ∧ after ((kOps.drop 218).take 43) V (Proc.devRef .tc KernelIdeal.main_call0_v23_1) = after ((rOps.drop 218).take 43) W (Proc.devRef .tc ReferenceIdeal.main_call0_v23_1)
    ∧ after ((kOps.drop 218).take 43) V (Proc.devRef .tc KernelIdeal.main_call0_v3) = after ((rOps.drop 218).take 43) W (Proc.devRef .tc ReferenceIdeal.main_call0_v3)
    ∧ after ((kOps.drop 218).take 43) V (Proc.devRef .tc KernelIdeal.main_call0_v2) = after ((rOps.drop 218).take 43) W (Proc.devRef .tc ReferenceIdeal.main_call0_v2) := by
  refine ⟨?_, ?_, ?_, ?_⟩ <;>
  · after_reads_simp
    try simp only [TRef.ofBuf_toBuf]
    try rw [h_tv137]
    try rw [h_tv141]
    try rw [h_tv1]
    try rw [h_uv5]
    try rw [h_uv3]
    try rw [h_uv2]
    try rfl

set_option maxHeartbeats 2000000 in
/-- After the generator's line the buffers still to be read agree, the ones before the piece agreeing. -/
theorem piece_279 (V : KVal F) (W : RVal F)
    (h_uv23_0 : V (Proc.devRef .tc KernelIdeal.main_call0_v23_0) = W (Proc.devRef .tc ReferenceIdeal.main_call0_v23_0))
    (h_uv23_1 : V (Proc.devRef .tc KernelIdeal.main_call0_v23_1) = W (Proc.devRef .tc ReferenceIdeal.main_call0_v23_1))
    (h_uv3 : V (Proc.devRef .tc KernelIdeal.main_call0_v3) = W (Proc.devRef .tc ReferenceIdeal.main_call0_v3))
    (h_uv2 : V (Proc.devRef .tc KernelIdeal.main_call0_v2) = W (Proc.devRef .tc ReferenceIdeal.main_call0_v2)) :
    after ((kOps.drop 261).take 18) V (Proc.devRef .tc KernelIdeal.main_v7) = after ((rOps.drop 261).take 18) W (Proc.devRef .tc ReferenceIdeal.main_v7) := by
  · after_reads_simp
    try simp only [TRef.ofBuf_toBuf]
    try rw [h_uv23_0]
    try rw [h_uv23_1]
    try rw [h_uv3]
    try rw [h_uv2]
    try rfl

/-- The noise is one in the two programs, whatever their buffers hold before. -/
theorem noise_eq (V : KVal F) (W : RVal F) :
    after kOps V (Proc.devRef .tc KernelIdeal.main_v7) = after (rOps.take 279) W (Proc.devRef .tc ReferenceIdeal.main_v7) := by
  rw [show (kOps (F := F)) = kOps.take 279 from rfl]
  obtain ⟨htv3, htv5, huv7, htv1, huv5, huv3, huv2⟩ := piece_46 (F := F) V W
  rw [show (kOps (F := F)).drop 0 = kOps from rfl, show (rOps (F := F)).drop 0 = rOps from rfl] at htv3 htv5 huv7 htv1 huv5 huv3 huv2
  obtain ⟨htv35, htv39, htv1, huv5, huv7, huv3, huv2⟩ := piece_89 (F := F) _ _ htv3 htv5 huv7 htv1 huv5 huv3 huv2
  rw [← after_cut, ← after_cut] at htv35 htv39 htv1 huv5 huv7 huv3 huv2
  obtain ⟨htv69, htv73, huv5, huv7, htv1, huv3, huv2⟩ := piece_132 (F := F) _ _ htv35 htv39 htv1 huv5 huv7 huv3 huv2
  rw [← after_cut, ← after_cut] at htv69 htv73 huv5 huv7 htv1 huv3 huv2
  obtain ⟨htv103, htv107, huv7, htv1, huv5, huv3, huv2⟩ := piece_175 (F := F) _ _ htv69 htv73 huv5 huv7 htv1 huv3 huv2
  rw [← after_cut, ← after_cut] at htv103 htv107 huv7 htv1 huv5 huv3 huv2
  obtain ⟨htv137, htv141, htv1, huv5, huv3, huv2⟩ := piece_218 (F := F) _ _ htv103 htv107 huv7 htv1 huv5 huv3 huv2
  rw [← after_cut, ← after_cut] at htv137 htv141 htv1 huv5 huv3 huv2
  obtain ⟨huv23_0, huv23_1, huv3, huv2⟩ := piece_261 (F := F) _ _ htv137 htv141 htv1 huv5 huv3 huv2
  rw [← after_cut, ← after_cut] at huv23_0 huv23_1 huv3 huv2
  obtain hv7 := piece_279 (F := F) _ _ huv23_0 huv23_1 huv3 huv2
  rw [← after_cut, ← after_cut] at hv7
  exact hv7

end Cert.Noise

end
-- ==== Proof.Words.lean ====
/-
  The noise and its words, as values. A draw is `m / 2 ^ 23` for the top 23 bits `m` of a generated word; the word the kernel
  searches over is the bit pattern of that float, worked out from `m` by integers. The pattern grows with `m` and stays below
  that of 1.0, so ordering by words is ordering by noise.
-/
module

public import Idealize.ShloMosaic.Lib.ValueIdx
public import Idealize.ShloMosaic.PureOps.Ideal.Laws

@[expose] public section

noncomputable section

namespace Cert.Words

open Idealize.ShloMosaic Idealize.ShloMosaic.ValueIdx

/-! ## The draw -/

/-- The draw from a generated word, as the generator computes it: the word's top 23 bits as the fraction of a float in
    [1, 2), less one, scaled to [0, 1). -/
def noiseOf (b : BitVec 32) : EReal :=
  max (Ideal.ofBits .f32 0x00000000#32)
    ((Ideal.ofBits .f32 (IntOp.ori (IntOp.shrui .host b 9#32) 1065353216#32) - Ideal.ofBits .f32 0x3F800000#32)
      * (Ideal.ofBits .f32 0x3F800000#32 - Ideal.ofBits .f32 0x00000000#32) + Ideal.ofBits .f32 0x00000000#32)

/-- The top 23 bits of a word, as a number. -/
def frac (b : BitVec 32) : ℕ := b.toNat / 2 ^ 9

/-- The fraction has 23 bits. -/
theorem frac_lt (b : BitVec 32) : frac b < 2 ^ 23 := by
  have := b.isLt; unfold frac; omega

/-- The literal 1. -/
theorem ofBits_one : (Ideal.ofBits .f32 0x3F800000#32 : EReal) = ((1 : ℝ) : EReal) := by
  simp [Ideal.ofBits, Ideal.ieee]
  rw [← EReal.coe_mul]
  norm_num

/-- A pattern with the exponent of 1 and fraction `m` is `1 + m / 2 ^ 23`. -/
theorem ofBits_frac (x : BitVec 32) (m : ℕ) (hm : m < 2 ^ 23) (hx : x.toNat = m + 127 * 2 ^ 23) :
    (Ideal.ofBits .f32 x : EReal) = ((1 + (m : ℝ) / 2 ^ 23 : ℝ) : EReal) := by
  have h1 : (x.extractLsb' (8 + 23) 1 == 1#1) = false := by
    rw [beq_eq_false_iff_ne]
    intro h
    have := congrArg BitVec.toNat h
    rw [BitVec.extractLsb'_toNat, hx, Nat.shiftRight_eq_div_pow] at this
    simp only [BitVec.toNat_ofNat] at this
    omega
  have h2 : (x.extractLsb' 23 8).toNat = 127 := by
    rw [BitVec.extractLsb'_toNat, hx, Nat.shiftRight_eq_div_pow]; omega
  have h3 : (x.extractLsb' 0 23).toNat = m := by
    rw [BitVec.extractLsb'_toNat, hx, Nat.shiftRight_zero]; omega
  show Ideal.ieee 8 23 x = _
  unfold Ideal.ieee
  simp only [h1, h2, h3]
  rw [if_neg (by norm_num), if_neg (by norm_num), EReal.coe_eq_coe_iff]
  push_cast
  norm_num
  ring

/-- The draw's value. -/
theorem noiseOf_eq (b : BitVec 32) : noiseOf b = (((frac b : ℝ) / 2 ^ 23 : ℝ) : EReal) := by
  have hs : (IntOp.shrui .host b 9#32) = b >>> 9 := by
    unfold IntOp.shrui
    rw [if_pos (by decide)]
    rfl
  have hx : (IntOp.ori (IntOp.shrui .host b 9#32) 1065353216#32).toNat = frac b + 127 * 2 ^ 23 := by
    rw [hs]
    show ((b >>> 9) ||| 1065353216#32).toNat = _
    rw [BitVec.toNat_or, BitVec.toNat_ushiftRight, Nat.shiftRight_eq_div_pow, show (1065353216#32).toNat = 2 ^ 23 * 127 from by decide,
      Nat.or_comm, ← Nat.two_pow_add_eq_or_of_lt (show b.toNat / 2 ^ 9 < 2 ^ 23 from frac_lt b)]
    unfold frac; omega
  unfold noiseOf
  rw [ofBits_frac _ _ (frac_lt b) hx, ofBits_one, Ideal.ofBits_zero_f32, ← EReal.coe_zero, ← EReal.coe_sub, ← EReal.coe_sub, ← EReal.coe_mul,
    ← EReal.coe_add, show ((1 + (frac b : ℝ) / 2 ^ 23 - 1) * (1 - 0) + 0 : ℝ) = (frac b : ℝ) / 2 ^ 23 from by ring]
  exact max_eq_right (EReal.coe_le_coe_iff.mpr (by positivity))

/-! ## The word of a draw -/

/-- The bit pattern of `m / 2 ^ 23`. -/
def wordOf (m : ℕ) : ℕ := if m = 0 then 0 else (103 + Nat.log2 m) * 2 ^ 23 + m * 2 ^ (23 - Nat.log2 m)

/-- A number below 2^23, shifted up to its leading bit, is between 2^23 and 2^24. -/
theorem scaled (m : ℕ) (h0 : m ≠ 0) (hm : m < 2 ^ 23) :
    Nat.log2 m ≤ 22 ∧ 2 ^ 23 ≤ m * 2 ^ (23 - Nat.log2 m) ∧ m * 2 ^ (23 - Nat.log2 m) < 2 ^ 24 := by
  have he : Nat.log2 m < 23 := (Nat.log2_lt h0).mpr hm
  have h1 : 2 ^ Nat.log2 m ≤ m := Nat.log2_self_le h0
  have h2 : m < 2 ^ (Nat.log2 m + 1) := Nat.lt_log2_self
  generalize Nat.log2 m = e at *
  have hp : 2 ^ e * 2 ^ (23 - e) = 2 ^ 23 := by rw [← pow_add, show e + (23 - e) = 23 from by omega]
  have hq : 2 ^ (e + 1) * 2 ^ (23 - e) = 2 ^ 24 := by rw [← pow_add, show e + 1 + (23 - e) = 24 from by omega]
  refine ⟨by omega, ?_, ?_⟩
  · rw [← hp]; exact Nat.mul_le_mul_right _ h1
  · rw [← hq]; exact Nat.mul_lt_mul_of_pos_right h2 (by positivity)

/-- The words are below the word of 1. -/
theorem wordOf_lt (m : ℕ) (hm : m < 2 ^ 23) : wordOf m < 1065353216 := by
  unfold wordOf
  split
  · norm_num
  · obtain ⟨h1, h2, h3⟩ := scaled m ‹_› hm
    omega

/-- The words are ordered as the fractions are. -/
theorem wordOf_lt_iff (a b : ℕ) (ha : a < 2 ^ 23) (hb : b < 2 ^ 23) : wordOf a < wordOf b ↔ a < b := by
  have mono : ∀ a b : ℕ, a < 2 ^ 23 → b < 2 ^ 23 → a < b → wordOf a < wordOf b := by
    intro a b ha hb h
    obtain ⟨b1, b2, b3⟩ := scaled b (by omega) hb
    unfold wordOf
    rw [if_neg (by omega : b ≠ 0)]
    by_cases h0 : a = 0
    · rw [if_pos h0]; omega
    · rw [if_neg h0]
      obtain ⟨a1, a2, a3⟩ := scaled a h0 ha
      have hle : Nat.log2 a ≤ Nat.log2 b := by
        refine (Nat.le_log2 (by omega)).mpr (le_trans (Nat.log2_self_le h0) h.le)
      rcases Nat.lt_or_ge (Nat.log2 a) (Nat.log2 b) with hl | hl
      · omega
      · have : Nat.log2 a = Nat.log2 b := le_antisymm hle hl
        rw [this]
        exact Nat.add_lt_add_left (Nat.mul_lt_mul_of_pos_right h (by positivity)) _
  constructor
  · intro h
    by_contra hn
    rcases Nat.lt_or_ge b a with hl | hl
    · exact absurd (mono b a hb ha hl) (by omega)
    · have : a = b := by omega
      subst this; omega
  · exact mono a b ha hb

/-- The word of a draw, as the kernel's program computes it from the float. -/
def unitWord (x : EReal) : BitVec 32 :=
  Scalar.select (IntOp.cmpi .eq (Ideal.fptosi 32 (x * Ideal.ofBits .f32 0x4B000000#32)) 0#32) 0#32
    (IntOp.addi (IntOp.shli .host (IntOp.subi 134#32 (IntOp.ctlz (Ideal.fptosi 32 (x * Ideal.ofBits .f32 0x4B000000#32)))) 23#32)
      (IntOp.shli .host (Ideal.fptosi 32 (x * Ideal.ofBits .f32 0x4B000000#32))
        (IntOp.subi (IntOp.ctlz (Ideal.fptosi 32 (x * Ideal.ofBits .f32 0x4B000000#32))) 8#32)))

/-- The literal 2^23. -/
theorem ofBits_scale : (Ideal.ofBits .f32 0x4B000000#32 : EReal) = ((2 ^ 23 : ℝ) : EReal) := by
  simp only [Ideal.ofBits, Ideal.ieee, show ((1258291200#32).extractLsb' (8 + 23) 1 == 1#1) = false from by decide,
    show ((1258291200#32).extractLsb' 23 8).toNat = 150 from by decide, show ((1258291200#32).extractLsb' 0 23).toNat = 0 from by decide]
  norm_num

/-- The kernel's word of m / 2^23 is `wordOf m`. -/
theorem unitWord_toNat (m : ℕ) (hm : m < 2 ^ 23) : (unitWord (((m : ℝ) / 2 ^ 23 : ℝ) : EReal)).toNat = wordOf m := by
  have hk : Ideal.fptosi 32 ((((m : ℝ) / 2 ^ 23 : ℝ) : EReal) * Ideal.ofBits .f32 0x4B000000#32) = BitVec.ofNat 32 m := by
    rw [ofBits_scale, ← EReal.coe_mul, div_mul_cancel₀ _ (by norm_num)]
    unfold Ideal.fptosi
    rw [Ideal.toIntClamped_coe, if_pos (by positivity), Int.floor_natCast, min_eq_right (by norm_num; omega), max_eq_right (by norm_num)]
    exact BitVec.ofInt_natCast 32 m
  unfold unitWord
  rw [hk]
  unfold wordOf
  by_cases h0 : m = 0
  · subst h0; rfl
  · rw [if_neg h0]
    obtain ⟨h1, h2, h3⟩ := scaled m h0 hm
    have hmn : (BitVec.ofNat 32 m).toNat = m := by rw [BitVec.toNat_ofNat, Nat.mod_eq_of_lt (by omega)]
    have hne : BitVec.ofNat 32 m ≠ 0#32 := fun h => h0 (by have := congrArg BitVec.toNat h; rw [hmn] at this; simpa using this)
    have hc : IntOp.cmpi .eq (BitVec.ofNat 32 m) 0#32 = 0#1 := by
      show BitVec.ofBool (BitVec.ofNat 32 m == 0#32) = _
      rw [beq_eq_false_iff_ne.mpr hne]; rfl
    have hz : (IntOp.ctlz (BitVec.ofNat 32 m)).toNat = 31 - Nat.log2 m := by
      unfold IntOp.ctlz
      rw [if_neg (show ¬BitVec.ofNat 32 m = 0 from hne), hmn, BitVec.toNat_ofNat, Nat.mod_eq_of_lt (by omega)]
    generalize IntOp.ctlz (BitVec.ofNat 32 m) = z at hz ⊢
    have h134 : (IntOp.subi 134#32 z).toNat = 103 + Nat.log2 m := by
      show (134#32 - z).toNat = _
      rw [BitVec.toNat_sub, hz, BitVec.toNat_ofNat]; omega
    have h8 : (IntOp.subi z 8#32).toNat = 23 - Nat.log2 m := by
      show (z - 8#32).toNat = _
      rw [BitVec.toNat_sub, hz, BitVec.toNat_ofNat]; omega
    rw [hc, select_zero]
    unfold IntOp.shli
    rw [if_pos (by decide), if_pos (by rw [h8]; omega)]
    show (IntOp.subi 134#32 z <<< (23#32 : BitVec 32) + BitVec.ofNat 32 m <<< (IntOp.subi z 8#32)).toNat = _
    rw [BitVec.toNat_add, BitVec.shiftLeft_eq', BitVec.shiftLeft_eq', BitVec.toNat_shiftLeft, BitVec.toNat_shiftLeft, h134, h8, hmn,
      Nat.shiftLeft_eq, Nat.shiftLeft_eq, show (23#32).toNat = 23 from by decide]
    omega

end Cert.Words

end
-- ==== Proof.Body.lean ====
module

public import proofs.«01_k».proof.Proof.Gen.KernelIdeal.Skeleton
public import proofs.«01_k».proof.Proof.Gen.KernelIdeal.Frame
public import Idealize.ShloMosaic.Lib.Pipeline.FrameSuffixV

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The kernel's operands left in HBM, its scratch buffers. -/
abbrev xM : Memref sig .tc .hbm S512x64x512 .f32 := Memref.whole main_v11
abbrev oM : Memref sig .tc .hbm S512x64x512 .f32 := Memref.whole main_v12_0
abbrev kM : Memref sig .tc .vmem S512x512 .f32 := Memref.whole cc0_scratch0
abbrev bM : Memref sig .tc .vmem S6x64x64x512 .f32 := Memref.whole cc0_scratch1

/-- The contents a memref's buffer may have. -/
abbrev BufOf (c : Dev nD) {sp : Space} {S : Shape} {e : EltTy} (M : Memref sig .tc sp S e) : Type := Buf (Elt F) (M.view.loc (c : Thread nD τ))

/-- `M`'s buffer held on the elements of one rectangle. -/
abbrev win (c : Dev nD) {sp : Space} {S : Shape} {e : EltTy} (M : Memref sig .tc sp S e) (R : Rect S) (f : BufOf (F := F) c M) : sProp 𝕄 :=
  M.view.loc (c : Thread nD τ) ↦[M.view.setOn R.set]{fullShare} f

/-- The 64 rows from row `r`. -/
abbrev chunk (r : ℕ) (h : ∀ a, (![r, 0, 0] : Fin 3 → ℕ) a + S64x64x512.size a ≤ S512x64x512.size a) : Rect S512x64x512 := Rect.unit (s := S512x64x512) ![r, 0, 0] S64x64x512.size h
/-- Slot `b` of the ring. -/
abbrev slot (b : ℕ) (h : ∀ a, (![b, 0, 0, 0] : Fin 4 → ℕ) a + S1x64x64x512.size a ≤ S6x64x64x512.size a) : Rect S6x64x64x512 := Rect.unit (s := S6x64x64x512) ![b, 0, 0, 0] S1x64x64x512.size h

/-- One chunk's values. -/
abbrev Pay (F : FTy → Type) : Type := S64x64x512.Idx → Elt F .f32

set_option sl_exec.squeezeSlice true in
/-- On the noise's words `f0` in whole, the second result's staging buffer, the keep scratch, the ring's six slots, the
    eight chunks of the transposed argument and of the first result, each apart, and the twelve cells at zero, the body
    runs to the continuation holding the second result written with the pieces `L.1`, each chunk of the first result
    written with one component of `L.2`, and everything else handed back; `L` depends on the words, the argument and what
    the ring held at the start alone. -/
noncomputable def kernelRun (c : Dev nD) (arg0 : Memref sig .tc .vmem S512x512 .i32) (harg0 : arg0.IsWhole)
    (arg3 : Memref sig .tc .vmem S512x512 .f32) (harg3 : arg3.IsWhole)
    (f0 : BufOf (F := F) c arg0) (fx : BufOf (F := F) c xM) (fb : BufOf (F := F) c bM) :
    { L : List (View.Piece (Elt F) S512x512 .f32) × Pay F × Pay F × Pay F × Pay F × Pay F × Pay F × Pay F × Pay F //
      ∀ (fo : BufOf (F := F) c oM) (fk : BufOf (F := F) c kM) (f3 : BufOf (F := F) c arg3) (W : Waits sig Unit) (K : PUnit → sProp 𝕄),
        iprop((arg0.view.loc (c : Thread nD τ) ↦[arg0.view.set]{fullShare} f0)
            ∗ (arg3.view.loc (c : Thread nD τ) ↦[arg3.view.set]{fullShare} f3)
            ∗ (kM.view.loc (c : Thread nD τ) ↦{fullShare} fk)
            ∗ (win c bM (slot 0 (by decide)) fb ∗ win c bM (slot 1 (by decide)) fb ∗ win c bM (slot 2 (by decide)) fb ∗ win c bM (slot 3 (by decide)) fb ∗ win c bM (slot 4 (by decide)) fb ∗ win c bM (slot 5 (by decide)) fb)
            ∗ (win c xM (chunk 0 (by decide)) fx ∗ win c xM (chunk 64 (by decide)) fx ∗ win c xM (chunk 128 (by decide)) fx ∗ win c xM (chunk 192 (by decide)) fx ∗ win c xM (chunk 256 (by decide)) fx ∗ win c xM (chunk 320 (by decide)) fx ∗ win c xM (chunk 384 (by decide)) fx ∗ win c xM (chunk 448 (by decide)) fx)
            ∗ (win c oM (chunk 0 (by decide)) fo ∗ win c oM (chunk 64 (by decide)) fo ∗ win c oM (chunk 128 (by decide)) fo ∗ win c oM (chunk 192 (by decide)) fo ∗ win c oM (chunk 256 (by decide)) fo ∗ win c oM (chunk 320 (by decide)) fo ∗ win c oM (chunk 384 (by decide)) fo ∗ win c oM (chunk 448 (by decide)) fo)
            ∗ (semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0)
            ∗ (semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0)
            ∗ owes (c : Thread nD τ) 0 W
            ∗ (iprop((arg0.view.loc (c : Thread nD τ) ↦[arg0.view.set]{fullShare} f0)
                ∗ (arg3.view.loc (c : Thread nD τ) ↦[arg3.view.set]{fullShare} arg3.view.writes (Elt F) f3 L.1)
                ∗ (∃ f, kM.view.loc (c : Thread nD τ) ↦{fullShare} f)
                ∗ ((∃ f, win c bM (slot 0 (by decide)) f) ∗ (∃ f, win c bM (slot 1 (by decide)) f) ∗ (∃ f, win c bM (slot 2 (by decide)) f) ∗ (∃ f, win c bM (slot 3 (by decide)) f) ∗ (∃ f, win c bM (slot 4 (by decide)) f) ∗ (∃ f, win c bM (slot 5 (by decide)) f))
                ∗ (win c xM (chunk 0 (by decide)) fx ∗ win c xM (chunk 64 (by decide)) fx ∗ win c xM (chunk 128 (by decide)) fx ∗ win c xM (chunk 192 (by decide)) fx ∗ win c xM (chunk 256 (by decide)) fx ∗ win c xM (chunk 320 (by decide)) fx ∗ win c xM (chunk 384 (by decide)) fx ∗ win c xM (chunk 448 (by decide)) fx)
                ∗ (win c oM (chunk 0 (by decide)) (oM.view.writes (Elt F) fo [⟨chunk 0 (by decide), L.2.1⟩]) ∗ win c oM (chunk 64 (by decide)) (oM.view.writes (Elt F) fo [⟨chunk 64 (by decide), L.2.2.1⟩]) ∗ win c oM (chunk 128 (by decide)) (oM.view.writes (Elt F) fo [⟨chunk 128 (by decide), L.2.2.2.1⟩]) ∗ win c oM (chunk 192 (by decide)) (oM.view.writes (Elt F) fo [⟨chunk 192 (by decide), L.2.2.2.2.1⟩]) ∗ win c oM (chunk 256 (by decide)) (oM.view.writes (Elt F) fo [⟨chunk 256 (by decide), L.2.2.2.2.2.1⟩]) ∗ win c oM (chunk 320 (by decide)) (oM.view.writes (Elt F) fo [⟨chunk 320 (by decide), L.2.2.2.2.2.2.1⟩]) ∗ win c oM (chunk 384 (by decide)) (oM.view.writes (Elt F) fo [⟨chunk 384 (by decide), L.2.2.2.2.2.2.2.1⟩]) ∗ win c oM (chunk 448 (by decide)) (oM.view.writes (Elt F) fo [⟨chunk 448 (by decide), L.2.2.2.2.2.2.2.2⟩]))
                ∗ (semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0)
                ∗ (semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0)
                ∗ (∃ W', owes (c : Thread nD τ) 0 W')) -∗ K ⟨⟩))
          ⊢ wp frame (wpE (defs₀ (F := F)) Variants.none c none) Set.univ
              (cc0__masked_fill_kernel arg0 harg0 xM (Memref.isWhole_whole _) oM (Memref.isWhole_whole _) arg3 harg3
                kM (Memref.isWhole_whole _) bM (Memref.isWhole_whole _) cc0_scratch2 cc0_scratch3) K } := by
  refine ⟨⟨?_, ?_, ?_, ?_, ?_, ?_, ?_, ?_, ?_⟩, fun fo fk f3 W K => ?run⟩
  case run =>
    dsimp only
    simp only [cc0__masked_fill_kernel_eq_skeleton]; unfold cc0__masked_fill_kernel_skel
    iintro ⟨H0, H3, HK, ⟨HB0, HB1, HB2, HB3, HB4, HB5⟩, ⟨HX0, HX1, HX2, HX3, HX4, HX5, HX6, HX7⟩, ⟨HO0, HO1, HO2, HO3, HO4, HO5, HO6, HO7⟩, ⟨HL0, HL1, HL2, HL3, HL4, HL5⟩, ⟨HS0, HS1, HS2, HS3, HS4, HS5⟩, HW, Hk⟩
    sl_exec
    sl_step
    sl_exec
    sl_step
    iapply Hk
    isplitl [H0]; · iexact H0
    isplitl [H3]; · iexact H3
    isplitl [HK]; · iexists _; iexact HK
    isplitl [HB0 HB1 HB2 HB3 HB4 HB5]
    · isplitl [HB0]; · iexists _; iexact HB0
      isplitl [HB1]; · iexists _; iexact HB1
      isplitl [HB2]; · iexists _; iexact HB2
      isplitl [HB3]; · iexists _; iexact HB3
      isplitl [HB4]; · iexists _; iexact HB4
      iexists _; iexact HB5
    isplitl [HX0 HX1 HX2 HX3 HX4 HX5 HX6 HX7]
    · isplitl [HX0]; · iexact HX0
      isplitl [HX1]; · iexact HX1
      isplitl [HX2]; · iexact HX2
      isplitl [HX3]; · iexact HX3
      isplitl [HX4]; · iexact HX4
      isplitl [HX5]; · iexact HX5
      isplitl [HX6]; · iexact HX6
      iexact HX7
    isplitl [HO0 HO1 HO2 HO3 HO4 HO5 HO6 HO7]
    · isplitl [HO0]; · iexact HO0
      isplitl [HO1]; · iexact HO1
      isplitl [HO2]; · iexact HO2
      isplitl [HO3]; · iexact HO3
      isplitl [HO4]; · iexact HO4
      isplitl [HO5]; · iexact HO5
      isplitl [HO6]; · iexact HO6
      iexact HO7
    isplitl [HL0 HL1 HL2 HL3 HL4 HL5]
    · isplitl [HL0]; · iexact HL0
      isplitl [HL1]; · iexact HL1
      isplitl [HL2]; · iexact HL2
      isplitl [HL3]; · iexact HL3
      isplitl [HL4]; · iexact HL4
      iexact HL5
    isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexists _; iexact HW

end Cert.KernelIdeal.Hand

end
-- ==== Proof.Value.lean ====
/-
  What the kernel's body leaves, in closed form. A chunk's 64 rows are multiplied in the ring slot one row at a time, each
  by its row of the keep scratch; the slot read back is therefore the chunk times the keep values, row by row.
-/
module

public import proofs.«01_k».proof.Proof.Body
public import Idealize.ShloMosaic.Lib.ValueIdx
public import Idealize.ShloMosaic.Lib.Pipeline.Value
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

/-- Ring slot `b`, a chunk's shape. -/
abbrev slotView (b : ℕ) (h : ∀ a, (![b, 0, 0, 0] : Fin 4 → ℕ) a + S1x64x64x512.size a ≤ S6x64x64x512.size a) :=
  ((bM.slice (slot b h) (fun _ => rfl)).squeeze S64x64x512 squeezes_S1x64x64x512_S64x64x512).view

/-- Row `i` of slot `b`. -/
abbrev rowRect (b i : ℕ) (hb : b < 6) (hi : i < 64) : Rect S6x64x64x512 :=
  Rect.unit (s := S6x64x64x512) ![b, i, 0, 0] S1x1x64x512.size (fun a => by
    match a with
    | ⟨0, _⟩ => show b + 1 ≤ 6; omega
    | ⟨1, _⟩ => show i + 1 ≤ 64; omega
    | ⟨2, _⟩ => show 0 + 64 ≤ 64; omega
    | ⟨3, _⟩ => show 0 + 512 ≤ 512; omega)

/-- Row `r` of the keep scratch. -/
abbrev keepRect (r : ℕ) (hr : r < 512) : Rect S512x512 :=
  Rect.unit (s := S512x512) ![r, 0] S1x512.size (fun a => by
    match a with
    | ⟨0, _⟩ => show r + 1 ≤ 512; omega
    | ⟨1, _⟩ => show 0 + 512 ≤ 512; omega)

/-- One row multiplied by its keep values, as the body spells it. -/
def rowPay (v : Vec F S1x1x64x512 .f32) (k : Vec F S1x512 .f32) : FVec F S1x1x64x512 .f32 :=
  shapeCast S1x1x64x512 (mulf (shapeCast S64x512 v shapeCasts_S1x1x64x512_S64x512 : FVec F S64x512 .f32)
    (broadcastTo S64x512 k broadcasts_S1x512_S64x512)) shapeCasts_S64x512_S1x1x64x512

/-- The stores of chunk `c`'s first `n` rows into slot `b`, the last one first; `g` is what the ring held when the chunk had
    arrived, `L` the keep scratch's writes. -/
def rows (g : bM.view.ty.Contents (Elt F)) (L : List (View.Piece (Elt F) S512x512 .f32)) (b c : ℕ) (hb : b < 6) (hc : c < 8) :
    (n : ℕ) → n ≤ 64 → List (View.Piece (Elt F) S6x64x64x512 .f32)
  | 0, _ => []
  | n + 1, h => ⟨rowRect b n hb h,
      rowPay (View.readAt (Elt F) bM.view (rowRect b n hb h).toLoadRect g)
        (kM.view.readCov L (keepRect (64 * c + n) (by omega)).toLoadRect)⟩ :: rows g L b c hb hc n (Nat.le_of_succ_le h)

/-- Every row stored is one of the stores. -/
theorem rows_mem (g : bM.view.ty.Contents (Elt F)) (L : List (View.Piece (Elt F) S512x512 .f32)) (b c : ℕ) (hb : b < 6) (hc : c < 8)
    (n : ℕ) (hn : n ≤ 64) (p : View.Piece (Elt F) S6x64x64x512 .f32) (hp : p ∈ rows g L b c hb hc n hn) :
    ∃ (i : ℕ) (hi : i < 64), p = ⟨rowRect b i hb hi,
      rowPay (View.readAt (Elt F) bM.view (rowRect b i hb hi).toLoadRect g) (kM.view.readCov L (keepRect (64 * c + i) (by omega)).toLoadRect)⟩ := by
  induction n with
  | zero => exact absurd hp List.not_mem_nil
  | succ n ih =>
    rcases List.mem_cons.mp hp with rfl | hp
    · exact ⟨n, hn, rfl⟩
    · exact ih _ hp

/-- Every store is one of the rows. -/
theorem mem_rows (g : bM.view.ty.Contents (Elt F)) (L : List (View.Piece (Elt F) S512x512 .f32)) (b c : ℕ) (hb : b < 6) (hc : c < 8)
    (n : ℕ) (hn : n ≤ 64) (i : ℕ) (hi : i < n) :
    ∃ p ∈ rows g L b c hb hc n hn, p.1 = rowRect b i hb (by omega) := by
  induction n with
  | zero => omega
  | succ n ih =>
    rcases Nat.lt_succ_iff_lt_or_eq.mp hi with h | rfl
    · obtain ⟨p, hp, e⟩ := ih (by omega) h
      exact ⟨p, List.mem_cons_of_mem _ hp, e⟩
    · exact ⟨_, List.mem_cons_self, rfl⟩

/-- Chunk `c`'s values, multiplied by rows `64 c …` of the keep values. -/
def outPay (c : ℕ) (hc : c < 8) (w : FVec F S64x64x512 .f32) (kp : FVec F S512x512 .f32) : FVec F S64x64x512 .f32 :=
  mulf w fun x => kp (ix2 (n0 := 512) (n1 := 512) ⟨64 * c + (x 0).val, by have h : (x 0).val < 64 := (x 0).isLt; omega⟩ (x 2))

/-- A slot read as a chunk, entry by entry. -/
theorem read_slot (b : ℕ) (hb : b < 6) (h) (g : bM.view.ty.Contents (Elt F)) (x : S64x64x512.Idx) :
    View.read (Elt F) (slotView b h) g x
      = View.read (Elt F) bM.view g (ix4 (n0 := 6) (n1 := 64) (n2 := 64) (n3 := 512) ⟨b, hb⟩ (x 0) (x 1) (x 2)) := by
  show View.read (Elt F) bM.view g ((slot b h).emb (Shape.reshapeEquiv _ x)) = _
  congr 1
  rw [Shape.reshapeEquiv_cons_one (n := 3) (d := ![64, 64, 512])]
  funext a
  apply Fin.ext
  match a with
  | ⟨0, _⟩ => show b + 1 * 0 = b; omega
  | ⟨1, _⟩ => show 0 + 1 * (x 0).val = (x 0).val; omega
  | ⟨2, _⟩ => show 0 + 1 * (x 1).val = (x 1).val; omega
  | ⟨3, _⟩ => show 0 + 1 * (x 2).val = (x 2).val; omega

/-- A slot written as a chunk and read within the ring. -/
theorem read_slot_write (b : ℕ) (hb : b < 6) (h) (g : bM.view.ty.Contents (Elt F)) (w : FVec F S64x64x512 .f32) (y : S6x64x64x512.Idx)
    (hy : (y 0).val = b) :
    View.read (Elt F) bM.view (View.write (Elt F) (slotView b h) g w Finset.univ) y = w (ix3 (n0 := 64) (n1 := 64) (n2 := 512) (y 1) (y 2) (y 3)) := by
  have e := read_slot b hb h (View.write (Elt F) (slotView b h) g w Finset.univ) (ix3 (n0 := 64) (n1 := 64) (n2 := 512) (y 1) (y 2) (y 3))
  rw [View.read_write_univ] at e
  rw [e]
  congr 1
  funext a
  match a with
  | ⟨0, _⟩ => exact Fin.ext hy
  | ⟨1, _⟩ => rfl
  | ⟨2, _⟩ => rfl
  | ⟨3, _⟩ => rfl

/-- A row of the keep scratch, read back after its one write. -/
theorem readCov_keep (kp : FVec F S512x512 .f32) (h₀) (r : ℕ) (hr : r < 512) (j : S1x512.Idx) :
    kM.view.readCov [(⟨Rect.unit (s := S512x512) ![0, 0] S512x512.size h₀, kp⟩ : View.Piece (Elt F) S512x512 .f32)] (keepRect r hr).toLoadRect j
      = kp (ix2 (n0 := 512) (n1 := 512) ⟨r, hr⟩ (j 1)) := by
  unfold View.readCov
  rw [View.readAt_apply]
  refine View.read_writes_cons_hit_of_coords _ _ (Rect.unit (s := S512x512) ![0, 0] S512x512.size h₀) _ _ (ix2 (n0 := 512) (n1 := 512) ⟨r, hr⟩ (j 1)) _ ?_
  intro a
  have h0 : (j 0).val = 0 := by have h : (j 0).val < 1 := (j 0).isLt; omega
  match a with
  | ⟨0, _⟩ => show r + 1 * (j 0).val = 0 + 1 * r; omega
  | ⟨1, _⟩ => show 0 + 1 * (j 1).val = 0 + 1 * (j 1).val; rfl

/-- A row times its keep values, entry by entry. -/
theorem rowPay_apply (v : Vec F S1x1x64x512 .f32) (k : Vec F S1x512 .f32) (z : S1x1x64x512.Idx) :
    rowPay v k z = FloatOps.mulf (v z) (k (ix2 (n0 := 1) (n1 := 512) 0 (z 3))) := by
  have z0 : (z 0).val = 0 := by have h : (z 0).val < 1 := (z 0).isLt; omega
  have z1 : (z 1).val = 0 := by have h : (z 1).val < 1 := (z 1).isLt; omega
  have e : ((⟨4, ![1, 1, 64, 512]⟩ : Shape).rowMajor z).val = (((⟨2, ![64, 512]⟩ : Shape).rowMajor (ix2 (n0 := 64) (n1 := 512) (z 2) (z 3)))).val := by
    rw [Shape.rowMajor_val_four, Shape.rowMajor_val_two]
    show (((z 0).val * 1 + (z 1).val) * 64 + (z 2).val) * 512 + (z 3).val = (z 2).val * 512 + (z 3).val
    omega
  unfold rowPay
  rw [shapeCast_apply _ _ z (ix2 (n0 := 64) (n1 := 512) (z 2) (z 3)) e.symm]
  show FloatOps.mulf (shapeCast S64x512 v _ _) (broadcastTo S64x512 k _ _) = _
  rw [shapeCast_apply _ _ _ z e]
  congr 1
  refine broadcastTo_apply _ _ _ _ ?_
  intro a
  match a with
  | ⟨0, _⟩ => rfl
  | ⟨1, _⟩ => rfl

/-- A slot read back after its chunk arrived and its 64 rows were multiplied. -/
theorem payload (b c : ℕ) (hb : b < 6) (hc : c < 8) (h) (g : bM.view.ty.Contents (Elt F)) (w : FVec F S64x64x512 .f32) (kp : FVec F S512x512 .f32) (h₀)
    (L : List (View.Piece (Elt F) S6x64x64x512 .f32))
    (hL : L = rows (View.write (Elt F) (slotView b h) g w Finset.univ) [⟨Rect.unit (s := S512x512) ![0, 0] S512x512.size h₀, kp⟩] b c hb hc 64 le_rfl) :
    View.read (Elt F) (slotView b h) (bM.view.writes (Elt F) (View.write (Elt F) (slotView b h) g w Finset.univ) L) = outPay c hc w kp := by
  subst hL
  funext x
  rw [read_slot b hb]
  have hx0 : (x 0).val < 64 := (x 0).isLt
  rw [View.read_writes_apply_of_pieces _ _ (fun y : S6x64x64x512.Idx =>
    (FloatOps.mulf (w (ix3 (n0 := 64) (n1 := 64) (n2 := 512) (y 1) (y 2) (y 3)))
      (kp (ix2 (n0 := 512) (n1 := 512) ⟨64 * c + (y 1).val, by have h : (y 1).val < 64 := (y 1).isLt; omega⟩ (y 3))) : F .f32))]
  · show _ = FloatOps.mulf (w x) _
    congr 1
    congr 1
    exact (eq_ix3 x).symm
  · intro p hp z
    obtain ⟨i, hi, rfl⟩ := rows_mem _ _ _ _ _ _ _ _ _ hp
    have z0 : (z 0).val = 0 := by have h : (z 0).val < 1 := (z 0).isLt; omega
    have z1 : (z 1).val = 0 := by have h : (z 1).val < 1 := (z 1).isLt; omega
    show rowPay _ _ z = _
    rw [rowPay_apply, readCov_keep, View.readAt_apply, read_slot_write b hb h]
    · congr 1
      refine congrArg kp (congrArg₂ _ (Fin.ext ?_) (Fin.ext ?_))
      · show 64 * c + i = 64 * c + (i + 1 * (z 1).val); omega
      · show (z 3).val = 0 + 1 * (z 3).val; omega
    · show b + 1 * (z 0).val = b; omega
  · obtain ⟨p, hp, e⟩ := mem_rows (View.write (Elt F) (slotView b h) g w Finset.univ) [⟨Rect.unit (s := S512x512) ![0, 0] S512x512.size h₀, kp⟩] b c hb hc 64 le_rfl (x 0).val hx0
    refine ⟨p, hp, ?_⟩
    rw [e]
    refine (Rect.mem_set_unit).mpr ?_
    intro a
    match a with
    | ⟨0, _⟩ => exact ⟨le_rfl, Nat.lt_succ_self _⟩
    | ⟨1, _⟩ => exact ⟨le_rfl, Nat.lt_succ_self _⟩
    | ⟨2, _⟩ => exact ⟨Nat.zero_le _, by show _ < 0 + 64; have h : (x 1).val < 64 := (x 1).isLt; exact (Nat.zero_add 64).symm ▸ h⟩
    | ⟨3, _⟩ => exact ⟨Nat.zero_le _, by show _ < 0 + 512; have h : (x 2).val < 512 := (x 2).isLt; exact (Nat.zero_add 512).symm ▸ h⟩

/-- A transfer between equal types moves the contents as they are. -/
theorem same_apply {s : Shape} {e : EltTy} (x : s.Idx → Elt F e) : (ReadAs.same (Val := Elt F)).apply x = x := rfl

/-- A slot lies within the ring. -/
theorem slot_le (b : ℕ) (hb : b < 6) : ∀ a, (![b, 0, 0, 0] : Fin 4 → ℕ) a + S1x64x64x512.size a ≤ S6x64x64x512.size a := fun a => by
    match a with
    | ⟨0, _⟩ => show b + 1 ≤ 6; omega
    | ⟨1, _⟩ => show 0 + 64 ≤ 64; omega
    | ⟨2, _⟩ => show 0 + 64 ≤ 64; omega
    | ⟨3, _⟩ => show 0 + 512 ≤ 512; omega

/-- A chunk lies within the array. -/
theorem chunk_le (k : ℕ) (hk : k < 8) : ∀ a, (![64 * k, 0, 0] : Fin 3 → ℕ) a + S64x64x512.size a ≤ S512x64x512.size a := fun a => by
    match a with
    | ⟨0, _⟩ => show 64 * k + 64 ≤ 512; omega
    | ⟨1, _⟩ => show 0 + 64 ≤ 64; omega
    | ⟨2, _⟩ => show 0 + 512 ≤ 512; omega

/-- Chunk `k` of the transposed argument. -/
def chunkOf (k : ℕ) (hk : k < 8) (fx : xM.view.ty.Contents (Elt F)) : FVec F S64x64x512 .f32 :=
  View.read (Elt F) (xM.slice (chunk (64 * k) (chunk_le k hk)) (fun _ => rfl)).view fx

/-- The search's two bounds after its 31 steps, over the rows' words. -/
def bounds (w : Vec F S512x512 .i32) : IVec S512x1 32 × IVec S512x1 32 :=
  Scf.fold (n := 31) (fun _ a => (k0_pay7 w a.1 a.2, k0_pay6 w a.1 a.2)) (k0_pay2, k0_pay3)

/-- The keep values of the words `w`. -/
def keepOf (w : Vec F S512x512 .i32) : FVec F S512x512 .f32 :=
  k0_pay12 (k0_pay8 w (bounds w).1) (k0_pay9 w (bounds w).1) (k0_pay10 w (bounds w).1) (Scalar.ofBits .f32 0x43800000#32)

/-- The mask values of the words `w`. -/
def maskOf (w : Vec F S512x512 .i32) : FVec F S512x512 .f32 :=
  k0_pay13 (k0_pay8 w (bounds w).1) (k0_pay9 w (bounds w).1) (k0_pay10 w (bounds w).1) (Scalar.ofBits .f32 0x43800000#32)

section Run

variable (c : Dev nD) (arg0 : Memref sig .tc .vmem S512x512 .i32) (harg0 : arg0.IsWhole)
    (arg3 : Memref sig .tc .vmem S512x512 .f32) (harg3 : arg3.IsWhole)
    (f0 : BufOf (F := F) c arg0) (fx : BufOf (F := F) c xM) (fb : BufOf (F := F) c bM)

/-- The words the body reads. -/
def words : Vec F S512x512 .i32 := View.readAt (Elt F) arg0.view (Rect.unit (s := S512x512) ![0, 0] S512x512.size inb_S512x512_S512x512_0_0).toLoadRect f0

set_option maxHeartbeats 2000000 in
theorem run_0 : kernelRun.sl.dma259 c arg0 f0 fx fb = outPay 0 (by omega) (chunkOf 0 (by omega) fx) (keepOf (words c arg0 f0)) := by
  delta kernelRun.sl.dma259
  refine (same_apply _).trans (payload 0 0 (by omega) (by omega) (slot_le 0 (by omega)) _ (kernelRun.sl.dma0 c fx) _
    inb_S512x512_S512x512_0_0 (kernelRun.sl.HB0_64 c arg0 f0 fx fb) ?_)
  delta kernelRun.sl.HB0_64
  rfl

set_option maxHeartbeats 2000000 in
theorem run_1 : kernelRun.sl.dma515 c arg0 f0 fx fb = outPay 1 (by omega) (chunkOf 1 (by omega) fx) (keepOf (words c arg0 f0)) := by
  delta kernelRun.sl.dma515
  refine (same_apply _).trans (payload 1 1 (by omega) (by omega) (slot_le 1 (by omega)) _ (kernelRun.sl.dma0_1 c fx) _
    inb_S512x512_S512x512_0_0 (kernelRun.sl.HB1_64 c arg0 f0 fx fb) ?_)
  delta kernelRun.sl.HB1_64
  rfl

set_option maxHeartbeats 2000000 in
theorem run_2 : kernelRun.sl.dma771 c arg0 f0 fx fb = outPay 2 (by omega) (chunkOf 2 (by omega) fx) (keepOf (words c arg0 f0)) := by
  delta kernelRun.sl.dma771
  refine (same_apply _).trans (payload 2 2 (by omega) (by omega) (slot_le 2 (by omega)) _ (kernelRun.sl.dma0_2 c fx) _
    inb_S512x512_S512x512_0_0 (kernelRun.sl.HB2_64 c arg0 f0 fx fb) ?_)
  delta kernelRun.sl.HB2_64
  rfl

set_option maxHeartbeats 2000000 in
theorem run_3 : kernelRun.sl.dma1027 c arg0 f0 fx fb = outPay 3 (by omega) (chunkOf 3 (by omega) fx) (keepOf (words c arg0 f0)) := by
  delta kernelRun.sl.dma1027
  refine (same_apply _).trans (payload 3 3 (by omega) (by omega) (slot_le 3 (by omega)) _ (kernelRun.sl.dma0_3 c fx) _
    inb_S512x512_S512x512_0_0 (kernelRun.sl.HB3_64 c arg0 f0 fx fb) ?_)
  delta kernelRun.sl.HB3_64
  rfl

set_option maxHeartbeats 2000000 in
theorem run_4 : kernelRun.sl.dma1283 c arg0 f0 fx fb = outPay 4 (by omega) (chunkOf 4 (by omega) fx) (keepOf (words c arg0 f0)) := by
  delta kernelRun.sl.dma1283
  refine (same_apply _).trans (payload 4 4 (by omega) (by omega) (slot_le 4 (by omega)) _ (kernelRun.sl.dma0_4 c fx) _
    inb_S512x512_S512x512_0_0 (kernelRun.sl.HB4_64 c arg0 f0 fx fb) ?_)
  delta kernelRun.sl.HB4_64
  rfl

set_option maxHeartbeats 2000000 in
theorem run_5 : kernelRun.sl.dma1539 c arg0 f0 fx fb = outPay 5 (by omega) (chunkOf 5 (by omega) fx) (keepOf (words c arg0 f0)) := by
  delta kernelRun.sl.dma1539
  refine (same_apply _).trans (payload 5 5 (by omega) (by omega) (slot_le 5 (by omega)) _ (kernelRun.sl.dma0_5 c fx) _
    inb_S512x512_S512x512_0_0 (kernelRun.sl.HB5_64 c arg0 f0 fx fb) ?_)
  delta kernelRun.sl.HB5_64
  rfl

set_option maxHeartbeats 2000000 in
theorem run_6 : kernelRun.sl.dma1795 c arg0 f0 fx fb = outPay 6 (by omega) (chunkOf 6 (by omega) fx) (keepOf (words c arg0 f0)) := by
  delta kernelRun.sl.dma1795
  refine (same_apply _).trans (payload 0 6 (by omega) (by omega) (slot_le 0 (by omega)) _ (kernelRun.sl.dma259_1 c fx) _
    inb_S512x512_S512x512_0_0 (kernelRun.sl.HB0_64_1 c arg0 f0 fx fb) ?_)
  delta kernelRun.sl.HB0_64_1
  rfl

set_option maxHeartbeats 2000000 in
theorem run_7 : kernelRun.sl.dma2051 c arg0 f0 fx fb = outPay 7 (by omega) (chunkOf 7 (by omega) fx) (keepOf (words c arg0 f0)) := by
  delta kernelRun.sl.dma2051
  refine (same_apply _).trans (payload 1 7 (by omega) (by omega) (slot_le 1 (by omega)) _ (kernelRun.sl.dma515_1 c fx) _
    inb_S512x512_S512x512_0_0 (kernelRun.sl.HB1_64_1 c arg0 f0 fx fb) ?_)
  delta kernelRun.sl.HB1_64_1
  rfl

/-- The pieces the body leaves: the mask in one piece, the eight chunks each times its keep values. -/
theorem kernelRun_eq : (kernelRun c arg0 harg0 arg3 harg3 f0 fx fb).1
    = ([⟨Rect.unit (s := S512x512) ![0, 0] S512x512.size inb_S512x512_S512x512_0_0, maskOf (words c arg0 f0)⟩],
      outPay 0 (by omega) (chunkOf 0 (by omega) fx) (keepOf (words c arg0 f0)),
      outPay 1 (by omega) (chunkOf 1 (by omega) fx) (keepOf (words c arg0 f0)),
      outPay 2 (by omega) (chunkOf 2 (by omega) fx) (keepOf (words c arg0 f0)),
      outPay 3 (by omega) (chunkOf 3 (by omega) fx) (keepOf (words c arg0 f0)),
      outPay 4 (by omega) (chunkOf 4 (by omega) fx) (keepOf (words c arg0 f0)),
      outPay 5 (by omega) (chunkOf 5 (by omega) fx) (keepOf (words c arg0 f0)),
      outPay 6 (by omega) (chunkOf 6 (by omega) fx) (keepOf (words c arg0 f0)),
      outPay 7 (by omega) (chunkOf 7 (by omega) fx) (keepOf (words c arg0 f0))) := by
  rw [← run_0, ← run_1, ← run_2, ← run_3, ← run_4, ← run_5, ← run_6, ← run_7]
  rfl

end Run

end Cert.KernelIdeal.Hand

end
-- ==== Proof.Order.lean ====
/-
  The order of a row's keys: ranks, what sorting twice computes, and what the bisection for a threshold finds.
-/
module

public import Idealize.ShloMosaic.Lib.SortFacts
public import Mathlib.Data.Fintype.Card
public import Mathlib.Order.Fin.Basic
public import Mathlib.Tactic.Common

@[expose] public section

namespace Cert.Order

open Idealize.ShloMosaic

variable {n : ℕ}

/-- The entries before `i` in the order of the keys, equal keys in the order of their places. -/
def before (key : Fin n → ℕ) (i : Fin n) : Finset (Fin n) :=
  Finset.univ.filter fun j => key j < key i ∨ (key j = key i ∧ j < i)

/-- The number of entries before `i`. -/
def rank (key : Fin n → ℕ) (i : Fin n) : ℕ := (before key i).card

/-! ## Sorting twice -/

/-- `j` comes before `i`. -/
def Prec (key : Fin n → ℕ) (j i : Fin n) : Prop := key j < key i ∨ (key j = key i ∧ j < i)

/-- Nothing precedes itself. -/
theorem Prec.irrefl (key : Fin n → ℕ) (i : Fin n) : ¬ Prec key i i := by
  rintro (h | ⟨-, h⟩)
  · exact lt_irrefl _ h
  · exact lt_irrefl _ h

/-- Precedence is transitive. -/
theorem Prec.trans {key : Fin n → ℕ} {a b c : Fin n} (h : Prec key a b) (h' : Prec key b c) : Prec key a c := by
  rcases h with h | ⟨h, g⟩ <;> rcases h' with h' | ⟨h', g'⟩
  · exact .inl (h.trans h')
  · exact .inl (h' ▸ h)
  · exact .inl (h ▸ h')
  · exact .inr ⟨h.trans h', g.trans g'⟩

/-- Putting an entry in front of the first entry that does not come before it keeps an ordered list ordered, when the list's
    entries all have later places. -/
theorem pairwise_insert (key : Fin n → ℕ) (R : Fin n → Fin n → Bool) (hR : ∀ a b, R a b = decide (key a < key b)) (a : Fin n) :
    ∀ l : List (Fin n), l.Pairwise (Prec key) → (∀ b ∈ l, a < b) → (insertBefore R a l).Pairwise (Prec key)
  | [], _, _ => List.pairwise_singleton _ _
  | b :: l, hl, ha => by
    rw [List.pairwise_cons] at hl
    unfold insertBefore
    rw [hR]
    by_cases h : key b < key a
    · rw [decide_eq_true h, if_pos rfl, List.pairwise_cons]
      refine ⟨fun c hc => ?_, pairwise_insert key R hR a l hl.2 fun c hc => ha c (List.mem_cons_of_mem _ hc)⟩
      rcases List.mem_cons.mp ((perm_insertBefore R a l).mem_iff.mp hc) with rfl | hc
      · exact .inl h
      · exact hl.1 c hc
    · rw [decide_eq_false h, if_neg (by decide), List.pairwise_cons]
      have hab : Prec key a b := by
        rcases Nat.lt_or_ge (key a) (key b) with h' | h'
        · exact .inl h'
        · exact .inr ⟨by omega, ha b List.mem_cons_self⟩
      refine ⟨fun c hc => ?_, List.pairwise_cons.mpr hl⟩
      rcases List.mem_cons.mp hc with rfl | hc
      · exact hab
      · exact hab.trans (hl.1 c hc)

/-- A stable sort of entries in the order of their places puts them in order. -/
theorem pairwise_sort (key : Fin n → ℕ) (R : Fin n → Fin n → Bool) (hR : ∀ a b, R a b = decide (key a < key b)) :
    ∀ l : List (Fin n), l.Pairwise (· < ·) → (stableSort R l).Pairwise (Prec key)
  | [], _ => List.Pairwise.nil
  | a :: l, hl => by
    rw [List.pairwise_cons] at hl
    unfold stableSort
    exact pairwise_insert key R hR a _ (pairwise_sort key R hR l hl.2) fun b hb => hl.1 b ((perm_stableSort R l).mem_iff.mp hb)

/-- An earlier place of the sorted row holds an earlier entry. -/
theorem prec_sorted (key : Fin n → ℕ) (R : Fin n → Fin n → Bool) (hR : ∀ a b, R a b = decide (key a < key b)) (i j : Fin n) (h : i < j) :
    Prec key (sortedFrom R i) (sortedFrom R j) := by
  have hp := List.pairwise_iff_get.mp (pairwise_sort key R hR (List.finRange n) (List.pairwise_lt_finRange n))
  unfold sortedFrom sortPositions
  exact hp _ _ h

/-- The entry at place `k` of the sorted row has rank `k`. -/
theorem rank_sorted (key : Fin n → ℕ) (R : Fin n → Fin n → Bool) (hR : ∀ a b, R a b = decide (key a < key b)) (k : Fin n) :
    rank key (sortedFrom R k) = k.val := by
  have hmono := prec_sorted key R hR
  have himg : before key (sortedFrom R k) = (Finset.univ.filter fun i : Fin n => i < k).map ⟨sortedFrom R, sortedFrom_injective R⟩ := by
    ext j
    simp only [before, Finset.mem_filter, Finset.mem_univ, true_and, Finset.mem_map, Function.Embedding.coeFn_mk]
    constructor
    · intro h
      obtain ⟨i, rfl⟩ := sortedFrom_surjective R j
      refine ⟨i, ?_, rfl⟩
      rcases lt_trichotomy i k with hik | rfl | hik
      · exact hik
      · exact absurd h (Prec.irrefl key _)
      · exact absurd (Prec.trans h (hmono k i hik)) (Prec.irrefl key _)
    · rintro ⟨i, hi, rfl⟩
      exact hmono i k hi
  unfold rank
  rw [himg, Finset.card_map]
  have : (Finset.univ.filter fun i : Fin n => i < k) = Finset.Iio k := by ext; simp
  rw [this, Fin.card_Iio]

/-- Of distinct keys that are a permutation of the places, the rank is the key. -/
theorem rank_perm (σ : Fin n → Fin n) (hσ : Function.Injective σ) (i : Fin n) : rank (fun j => (σ j).val) i = (σ i).val := by
  have hs : Function.Surjective σ := Finite.surjective_of_injective hσ
  have : (before (fun j => (σ j).val) i).map ⟨σ, hσ⟩ = Finset.Iio (σ i) := by
    ext j
    simp only [before, Finset.mem_map, Finset.mem_filter, Finset.mem_univ, true_and, Function.Embedding.coeFn_mk, Finset.mem_Iio]
    constructor
    · rintro ⟨k, h | ⟨h, h'⟩, rfl⟩
      · exact h
      · exact absurd (hσ (Fin.ext h)) (ne_of_lt h')
    · intro h
      obtain ⟨k, rfl⟩ := hs j
      exact ⟨k, .inl h, rfl⟩
  unfold rank
  rw [← Finset.card_map ⟨σ, hσ⟩, this, Fin.card_Iio]

/-- Sorting the places that a sort leaves gives each entry's rank. -/
theorem sort_sort (key : Fin n → ℕ) (R R' : Fin n → Fin n → Bool) (hR : ∀ a b, R a b = decide (key a < key b))
    (hR' : ∀ a b, R' a b = decide ((sortedFrom R a).val < (sortedFrom R b).val)) (k : Fin n) :
    (sortedFrom R' k).val = rank key k := by
  have h1 := rank_sorted (fun j => (sortedFrom R j).val) R' hR' k
  rw [rank_perm _ (sortedFrom_injective R)] at h1
  have h2 := rank_sorted key R hR (sortedFrom R' k)
  rw [Fin.ext h1] at h2
  exact h2.symm

/-! ## The threshold -/

/-- The number of keys at most `t`. -/
def upTo (key : Fin n → ℕ) (t : ℕ) : ℕ := (Finset.univ.filter fun j => key j ≤ t).card

/-- One step of the bisection for the least `t` with at least `K` keys at most `t`. -/
def step (key : Fin n → ℕ) (K : ℕ) (a : ℕ × ℕ) : ℕ × ℕ :=
  if K ≤ upTo key ((a.1 + a.2) / 2) then (a.1, (a.1 + a.2) / 2) else ((a.1 + a.2) / 2 + 1, a.2)

/-- The bisection's bounds keep `K` keys at most the upper one, and fewer than `K` below the lower one. -/
def Bracket (key : Fin n → ℕ) (K : ℕ) (a : ℕ × ℕ) : Prop :=
  a.1 ≤ a.2 ∧ K ≤ upTo key a.2 ∧ ∀ s, s < a.1 → upTo key s < K

/-- A larger bound counts at least as many keys. -/
theorem upTo_mono (key : Fin n → ℕ) {s t : ℕ} (h : s ≤ t) : upTo key s ≤ upTo key t :=
  Finset.card_le_card fun j hj => by
    rw [Finset.mem_filter] at hj ⊢; exact ⟨hj.1, hj.2.trans h⟩

/-- A step of the search keeps the bracket around the threshold. -/
theorem step_bracket (key : Fin n → ℕ) (K : ℕ) (a : ℕ × ℕ) (h : Bracket key K a) :
    Bracket key K (step key K a) ∧ (step key K a).2 - (step key K a).1 ≤ (a.2 - a.1) / 2 ∧ (step key K a).2 ≤ a.2 := by
  obtain ⟨lo, hi⟩ := a
  obtain ⟨h1, h2, h3⟩ := h
  dsimp only at h1 h2 h3 ⊢
  by_cases hk : K ≤ upTo key ((lo + hi) / 2)
  · rw [show step key K (lo, hi) = (lo, (lo + hi) / 2) from if_pos hk]
    exact ⟨⟨by dsimp only; omega, hk, h3⟩, by dsimp only; omega, by dsimp only; omega⟩
  · rw [show step key K (lo, hi) = ((lo + hi) / 2 + 1, hi) from if_neg hk]
    have hne : (lo + hi) / 2 ≠ hi := fun e => hk (by rw [e]; exact h2)
    refine ⟨⟨by dsimp only; omega, h2, fun s hs => ?_⟩, by dsimp only; omega, le_refl _⟩
    dsimp only at hs
    exact lt_of_le_of_lt (upTo_mono key (Nat.lt_succ_iff.mp hs)) (Nat.lt_of_not_le hk)

/-- `m` steps from bounds less than `2 ^ m` apart meet at the least such `t`. -/
theorem steps_meet (key : Fin n → ℕ) (K : ℕ) : ∀ (m : ℕ) (a : ℕ × ℕ), Bracket key K a → a.2 - a.1 < 2 ^ m →
    Bracket key K ((step key K)^[m] a) ∧ ((step key K)^[m] a).2 = ((step key K)^[m] a).1
  | 0, a, h, hd => ⟨h, by have := h.1; rw [pow_zero] at hd; show a.2 = a.1; omega⟩
  | m + 1, a, h, hd => by
    obtain ⟨hb, hw, -⟩ := step_bracket key K a h
    rw [Function.iterate_succ_apply]
    exact steps_meet key K m _ hb (by rw [pow_succ] at hd; omega)

/-- An entry has rank below `K` just when its key is below the threshold, or is the threshold with fewer than `K` entries
    before it. -/
theorem rank_lt_iff (key : Fin n → ℕ) (K t : ℕ) (h1 : K ≤ upTo key t) (h2 : ∀ s, s < t → upTo key s < K) (i : Fin n) :
    rank key i < K ↔ key i < t ∨ (key i = t ∧ (Finset.univ.filter fun j => key j < t).card
      + (Finset.univ.filter fun j => key j = t ∧ j < i).card < K) := by
  have hsplit : key i = t → rank key i = (Finset.univ.filter fun j => key j < t).card + (Finset.univ.filter fun j => key j = t ∧ j < i).card := by
    rintro rfl
    unfold rank before
    rw [← Finset.card_union_of_disjoint]
    · congr 1
      ext j
      simp only [Finset.mem_filter, Finset.mem_univ, true_and, Finset.mem_union]
    · rw [Finset.disjoint_filter]
      rintro j - h ⟨h', -⟩
      omega
  constructor
  · intro h
    rcases lt_trichotomy (key i) t with hlt | heq | hgt
    · exact .inl hlt
    · exact .inr ⟨heq, hsplit heq ▸ h⟩
    · refine absurd h (not_lt.mpr (h1.trans ?_))
      refine Finset.card_le_card fun j hj => ?_
      simp only [before, Finset.mem_filter, Finset.mem_univ, true_and] at hj ⊢
      exact .inl (by omega)
  · rintro (h | ⟨heq, h⟩)
    · refine lt_of_le_of_lt (Finset.card_le_card fun j hj => ?_) (h2 (key i) h)
      simp only [before, Finset.mem_filter, Finset.mem_univ, true_and] at hj ⊢
      omega
    · exact hsplit heq ▸ h

end Cert.Order
-- ==== Proof.Bisect.lean ====
/-
  What the kernel's search computes. Its words are read as numbers: the 31 steps are the bisection of the theory of ranks, so
  they end at the least threshold with 256 words at most it, and the keep values are 1 where a word's rank in its row is
  below 256 and 0 elsewhere.
-/
module

public import proofs.«01_k».proof.Proof.Value
public import proofs.«01_k».proof.Proof.Order
public import Idealize.ShloMosaic.Lib.WordSum
public import Idealize.ShloMosaic.PureOps.Ideal.Laws

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.Order

/-! ## Words as numbers -/

/-- Two words with clear sign bits compare as their numbers. -/
theorem sle_nat (a b : BitVec 32) (ha : a.toNat < 2 ^ 31) (hb : b.toNat < 2 ^ 31) : a.sle b = decide (a.toNat ≤ b.toNat) := by
  rw [BitVec.sle_eq_decide, BitVec.toInt_eq_toNat_of_lt (by omega), BitVec.toInt_eq_toNat_of_lt (by omega)]
  exact decide_eq_decide.mpr Int.ofNat_le

/-- Below 2^31 the signed comparison of words is that of their numbers. -/
theorem slt_nat (a b : BitVec 32) (ha : a.toNat < 2 ^ 31) (hb : b.toNat < 2 ^ 31) : a.slt b = decide (a.toNat < b.toNat) := by
  rw [BitVec.slt_eq_decide, BitVec.toInt_eq_toNat_of_lt (by omega), BitVec.toInt_eq_toNat_of_lt (by omega)]
  exact decide_eq_decide.mpr Int.ofNat_lt

/-- Words are equal when their numbers are. -/
theorem eq_nat (a b : BitVec 32) : (a == b) = decide (a.toNat = b.toNat) := by
  by_cases h : a = b
  · subst h; simp
  · rw [beq_eq_false_iff_ne.mpr h, decide_eq_false (fun e => h (BitVec.eq_of_toNat_eq e))]

/-- A decided bit, widened. -/
theorem bit_width (p : Bool) : (BitVec.ofBool p).setWidth 32 = if p then 1#32 else 0#32 := by cases p <;> rfl

/-- A choice on a decided bit. -/
theorem select_ofBool {α : Type} (p : Bool) (a b : α) : Scalar.select (BitVec.ofBool p) a b = if p then a else b := by cases p <;> rfl

/-- The midpoint as the kernel computes it: the floor of half the sum, by a division toward zero. -/
def midWord (a b : BitVec 32) : BitVec 32 :=
  Scalar.select (IntOp.andi
      (IntOp.cmpi .ne (IntOp.subi ((IntOp.cmpi .sgt (IntOp.addi a b) 0#32).setWidth 32) ((IntOp.cmpi .slt (IntOp.addi a b) 0#32).setWidth 32))
        (Scalar.subi (Scalar.extui (Scalar.cmpi .sgt 2#32 0#32)) (Scalar.extui (Scalar.cmpi .slt 2#32 0#32))))
      (IntOp.cmpi .ne (IntOp.remsi .vector (IntOp.addi a b) 2#32) 0#32))
    (IntOp.subi (IntOp.divsi .vector (IntOp.addi a b) 2#32) 1#32) (IntOp.divsi .vector (IntOp.addi a b) 2#32)

/-- Half of a word below 2^31. -/
theorem div_two (s : BitVec 32) (h : s.toNat < 2 ^ 31) : (IntOp.divsi .vector s 2#32).toNat = s.toNat / 2 := by
  have hc : ¬IntOp.SDivCorner s 2#32 := by
    rintro (h | ⟨-, h⟩) <;> exact absurd h (by decide)
  unfold IntOp.divsi
  rw [if_neg hc, BitVec.sdiv_eq, BitVec.msb_eq_false_iff_two_mul_lt.mpr (by omega), show (2#32).msb = false from by decide]
  show (s / 2#32).toNat = _
  rw [BitVec.toNat_udiv]
  rfl

/-- The middle of two words whose sum does not overflow. -/
theorem midWord_toNat (a b : BitVec 32) (h : a.toNat + b.toNat < 2 ^ 31) : (midWord a b).toNat = (a.toNat + b.toNat) / 2 := by
  have hs : (IntOp.addi a b).toNat = a.toNat + b.toNat := by
    show (a + b).toNat = _
    rw [BitVec.toNat_add, Nat.mod_eq_of_lt (by omega)]
  unfold midWord
  generalize IntOp.addi a b = s at hs ⊢
  have h31 : s.toNat < 2 ^ 31 := by omega
  rw [← hs, ← div_two s h31]
  by_cases h0 : s.toNat = 0
  · obtain rfl : s = 0#32 := BitVec.eq_of_toNat_eq h0
    rfl
  · have h1 : IntOp.cmpi .sgt s 0#32 = 1#1 := by
      show BitVec.ofBool ((0#32).slt s) = _
      rw [slt_nat _ _ (by decide) h31, decide_eq_true (by show 0 < s.toNat; omega)]; rfl
    have h2 : IntOp.cmpi .slt s 0#32 = 0#1 := by
      show BitVec.ofBool (s.slt 0#32) = _
      rw [slt_nat _ _ h31 (by decide), decide_eq_false (by show ¬s.toNat < 0; omega)]; rfl
    rw [h1, h2]
    have h3 : ∀ x : BitVec 1, IntOp.andi 0#1 x = 0#1 := by decide
    have h4 : IntOp.cmpi .ne (IntOp.subi ((1#1 : BitVec 1).setWidth 32) ((0#1 : BitVec 1).setWidth 32))
        (Scalar.subi (Scalar.extui (Scalar.cmpi .sgt 2#32 0#32)) (Scalar.extui (Scalar.cmpi .slt 2#32 0#32))) = 0#1 := by decide
    rw [h4, h3, select_zero]

variable {F : FTy → Type} [FloatOps F]

/-- Row `r` of the words, as numbers. -/
def key (w : IVec S512x512 32) (r : Fin 512) : Fin 512 → ℕ := fun j => (w (ix2 r j)).toNat

/-! ## One step -/

/-- The step's middle, entry by entry. -/
theorem pay4_apply (lo hi : IVec S512x1 32) (i : S512x1.Idx) : k0_pay4 lo hi i = midWord (lo i) (hi i) := rfl

/-- A column spread over the row's 512 places. -/
theorem spread_apply {α : Type} (x : S512x1.Idx → α) (r i : Fin 512) :
    broadcastTo S512x512 x broadcasts_S512x1_S512x512 (ix2 r i) = x (ix2 r 0) := by
  refine broadcastTo_apply _ _ _ _ ?_
  intro a
  match a with
  | ⟨0, _⟩ => rfl
  | ⟨1, _⟩ => rfl

/-- A row's value as a column. -/
theorem column_apply {α : Type} (x : S512.Idx → α) (r : Fin 512) :
    shapeCast S512x1 x shapeCasts_S512_S512x1 (ix2 r 0) = x (ix1 r) := by
  refine shapeCast_apply _ _ _ _ ?_
  rw [Shape.rowMajor_val_one, Shape.rowMajor_val_two]
  show r.val = r.val * 1 + 0
  omega

/-- A read of the whole array gives each entry. -/
theorem whole_apply {α : Type} (x : S512x512.Idx → α) (i : S512x512.Idx) :
    shapeCast S512x512 x shapeCasts_S512x512_S512x512 i = x i := shapeCast_apply _ _ _ _ rfl

/-- The words the body reads, entry by entry. -/
theorem pay1_apply (w : Vec F S512x512 .i32) (i : S512x512.Idx) : k0_pay1 w i = w i := whole_apply _ i

/-- The index summed over along a row. -/
theorem lift_row (r : Fin 512) (k : Fin 512) :
    (reduces_S512x512_S512 : S512x512.Reduces [1] S512).lift (ix1 r) k = ix2 r k := by
  funext a
  match a with
  | ⟨0, _⟩ => rfl
  | ⟨1, _⟩ => rfl

/-- The number of places of a row where a bit is set, as the kernel counts it. -/
theorem count_row (p : S512x512.Idx → Bool) (r : Fin 512) :
    (multiReductionI .add [1] S512 (extui 32 (fun i => BitVec.ofBool (p i)) natLt_1_32) 0#32 reduces_S512x512_S512 rfl (ix1 r)).toNat
      = (Finset.univ.filter fun k : Fin 512 => p (ix2 r k) = true).card := by
  have hsum : ∑ i ∈ Finset.univ.filter (fun i => (reduces_S512x512_S512 : S512x512.Reduces [1] S512).drop i = ix1 r),
      ((extui 32 (fun i => BitVec.ofBool (p i)) natLt_1_32 : IVec S512x512 32) i).toNat
      = (Finset.univ.filter fun k : Fin 512 => p (ix2 r k) = true).card := by
    rw [Shape.Reduces.sum_filter_drop_single, Finset.card_filter]
    refine Finset.sum_congr rfl fun k _ => ?_
    refine (congrArg (fun i => ((BitVec.ofBool (p i)).setWidth 32).toNat) (lift_row r k)).trans ?_
    show ((BitVec.ofBool (p (ix2 r k))).setWidth 32).toNat = _
    rw [bit_width]
    split <;> rfl
  refine (WordSum.toNat_multiReductionI_add _ _ _ _ ?_).trans hsum
  rw [hsum]
  refine lt_of_le_of_lt (Finset.card_le_univ _) ?_
  rw [Fintype.card_fin]; norm_num

/-- The two bounds of a row, as numbers. -/
def nums (r : Fin 512) (a : IVec S512x1 32 × IVec S512x1 32) : ℕ × ℕ := ((a.1 (ix2 r 0)).toNat, (a.2 (ix2 r 0)).toNat)

/-- The numbers of a pair of bounds, at one row. -/
theorem nums_mk (r : Fin 512) (x y : IVec S512x1 32) : nums r (x, y) = ((x (ix2 r 0)).toNat, (y (ix2 r 0)).toNat) := rfl

/-- One of the search's steps. -/
def next (w : Vec F S512x512 .i32) (a : IVec S512x1 32 × IVec S512x1 32) : IVec S512x1 32 × IVec S512x1 32 :=
  (k0_pay7 w a.1 a.2, k0_pay6 w a.1 a.2)

/-- The upper bound the search starts from. -/
def top : ℕ := 1065353216

/-- The upper bound the search starts from is below 2^31. -/
theorem top_lt : top < 2 ^ 31 := by unfold top; norm_num

/-- The step's test: are there 256 words at most the midpoint? -/
theorem pay5_apply (w : Vec F S512x512 .i32) (hw : ∀ r j, key w r j < top) (a : IVec S512x1 32 × IVec S512x1 32) (r : Fin 512)
    (ha : (nums r a).1 + (nums r a).2 < 2 ^ 31) :
    k0_pay5 w a.1 a.2 (ix2 r 0) = BitVec.ofBool (decide (256 ≤ upTo (key w r) (((nums r a).1 + (nums r a).2) / 2))) := by
  have hm : (k0_pay4 a.1 a.2 (ix2 r 0)).toNat = ((nums r a).1 + (nums r a).2) / 2 := by rw [pay4_apply]; exact midWord_toNat _ _ ha
  show BitVec.ofBool ((256#32).sle (shapeCast S512x1 (multiReductionI .add [1] S512 (extui 32 (fun i => BitVec.ofBool ((k0_pay1 w i).sle
    (broadcastTo S512x512 (k0_pay4 a.1 a.2) broadcasts_S512x1_S512x512 i))) natLt_1_32) 0#32 reduces_S512x512_S512 rfl) shapeCasts_S512_S512x1 (ix2 r 0))) = _
  rw [column_apply]
  have hc := count_row (fun i => (k0_pay1 w i).sle (broadcastTo S512x512 (k0_pay4 a.1 a.2) broadcasts_S512x1_S512x512 i)) r
  have he : (Finset.univ.filter fun k : Fin 512 => ((k0_pay1 w (ix2 r k)).sle (broadcastTo S512x512 (k0_pay4 a.1 a.2) broadcasts_S512x1_S512x512 (ix2 r k))) = true).card
      = upTo (key w r) (((nums r a).1 + (nums r a).2) / 2) := by
    unfold upTo
    refine congrArg Finset.card (Finset.ext fun k => ?_)
    rw [Finset.mem_filter, Finset.mem_filter, spread_apply, pay1_apply, sle_nat _ _ (lt_trans (hw r k) top_lt) (by rw [hm]; omega), hm]
    simp only [Finset.mem_univ, true_and, decide_eq_true_eq]
    exact Iff.rfl
  rw [he] at hc
  rw [sle_nat _ _ (by decide) (by rw [hc]; exact lt_of_le_of_lt (Finset.card_le_univ _) (by rw [Fintype.card_fin]; norm_num)), hc]
  rfl

/-- A step of the search is a step of the bisection. -/
theorem nums_next (w : Vec F S512x512 .i32) (hw : ∀ r j, key w r j < top) (a : IVec S512x1 32 × IVec S512x1 32) (r : Fin 512)
    (ha : (nums r a).1 ≤ (nums r a).2) (hb : (nums r a).2 ≤ top) : nums r (next w a) = step (key w r) 256 (nums r a) := by
  have hs : (nums r a).1 + (nums r a).2 < 2 ^ 31 := by unfold top at hb; omega
  have hm : (k0_pay4 a.1 a.2 (ix2 r 0)).toNat = ((nums r a).1 + (nums r a).2) / 2 := by rw [pay4_apply]; exact midWord_toNat _ _ hs
  have h7 : k0_pay7 w a.1 a.2 (ix2 r 0) = Scalar.select (k0_pay5 w a.1 a.2 (ix2 r 0)) (a.1 (ix2 r 0)) (k0_pay4 a.1 a.2 (ix2 r 0) + 1#32) := rfl
  have h6 : k0_pay6 w a.1 a.2 (ix2 r 0) = Scalar.select (k0_pay5 w a.1 a.2 (ix2 r 0)) (k0_pay4 a.1 a.2 (ix2 r 0)) (a.2 (ix2 r 0)) := rfl
  unfold next
  rw [nums_mk, h7, h6, pay5_apply w hw a r hs, select_ofBool, select_ofBool]
  unfold step
  by_cases hk : 256 ≤ upTo (key w r) (((nums r a).1 + (nums r a).2) / 2)
  · rw [if_pos hk, if_pos (decide_eq_true hk), if_pos (decide_eq_true hk), hm]
    rfl
  · rw [if_neg hk, if_neg (by rw [decide_eq_true_eq]; exact hk), if_neg (by rw [decide_eq_true_eq]; exact hk), BitVec.toNat_add, hm]
    refine Prod.ext ?_ rfl
    show (((nums r a).1 + (nums r a).2) / 2 + 1) % 2 ^ 32 = _
    rw [Nat.mod_eq_of_lt (by omega)]

/-- The loop over whole arrays is, at each row, the loop on that row's numbers. -/
theorem nums_fold (w : Vec F S512x512 .i32) (hw : ∀ r j, key w r j < top) (r : Fin 512) {n : ℕ} : ∀ (ks : List (Fin n)) (a : IVec S512x1 32 × IVec S512x1 32),
    Bracket (key w r) 256 (nums r a) → (nums r a).2 ≤ top →
    nums r (ks.foldl (fun acc _ => next w acc) a) = (step (key w r) 256)^[ks.length] (nums r a)
  | [], _, _, _ => rfl
  | k :: ks, a, h, hb => by
    obtain ⟨h1, -, h2⟩ := step_bracket _ _ _ h
    have he := nums_next w hw a r h.1 hb
    rw [List.foldl_cons, List.length_cons, Function.iterate_succ_apply, ← he]
    exact nums_fold w hw r ks _ (by rw [he]; exact h1) (by rw [he]; exact h2.trans hb)

/-- The search ends at the least threshold with 256 words at most it. -/
theorem bounds_spec (w : Vec F S512x512 .i32) (hw : ∀ r j, key w r j < top) (r : Fin 512) :
    256 ≤ upTo (key w r) ((bounds w).1 (ix2 r 0)).toNat ∧ (∀ s, s < ((bounds w).1 (ix2 r 0)).toNat → upTo (key w r) s < 256)
      ∧ ((bounds w).1 (ix2 r 0)).toNat ≤ top := by
  have h0 : Bracket (key w r) 256 (nums r (k0_pay2, k0_pay3)) := by
    refine ⟨Nat.zero_le _, ?_, fun s hs => absurd hs (Nat.not_lt_zero s)⟩
    have : upTo (key w r) top = 512 := by
      unfold upTo
      rw [Finset.filter_true_of_mem fun j _ => (hw r j).le, Finset.card_univ, Fintype.card_fin]
    show 256 ≤ upTo (key w r) top
    rw [this]; norm_num
  have hf : nums r (bounds w) = (step (key w r) 256)^[31] (nums r (k0_pay2, k0_pay3)) := by
    unfold bounds
    rw [Scf.fold_eq]
    have := nums_fold w hw r (List.finRange 31) (k0_pay2, k0_pay3) h0 le_rfl
    rw [List.length_finRange] at this
    exact this
  obtain ⟨hb, he⟩ := steps_meet _ _ 31 _ h0 (by show top - 0 < 2 ^ 31; exact lt_of_le_of_lt (Nat.sub_le _ _) top_lt)
  rw [← hf] at hb he
  obtain ⟨h1, h2, h3⟩ := hb
  have e1 : (nums r (bounds w)).1 = ((bounds w).1 (ix2 r 0)).toNat := rfl
  rw [he, e1] at h2
  refine ⟨h2, h3, ?_⟩
  by_contra hlt
  have := h3 top (by rw [e1]; omega)
  have h512 : upTo (key w r) top = 512 := by
    unfold upTo
    rw [Finset.filter_true_of_mem fun j _ => (hw r j).le, Finset.card_univ, Fintype.card_fin]
  omega

/-! ## The keep values -/

/-- A bit as a float. -/
theorem bit_float (p : Bool) : (FloatOps.sitofp .f32 ((BitVec.ofBool p).setWidth 32) : Ideal .f32) = if p = true then (1 : EReal) else 0 := by
  cases p
  · show (((0#32).toInt : ℝ) : EReal) = _; norm_num
  · show (((1#32).toInt : ℝ) : EReal) = _
    rw [show (1#32).toInt = 1 from by decide]; norm_num

/-- The number of places of a row where a bit is set, counted in floats. -/
theorem count_float (p : S512x512.Idx → Bool) (r : Fin 512) :
    (multiReduction .add [1] S512 (sitofp .f32 (extui 32 (fun i => BitVec.ofBool (p i)) natLt_1_32) : FVec Ideal S512x512 .f32)
        0x00000000#32 reduces_S512x512_S512 (.inl rfl) rfl (ix1 r) : EReal)
      = ((Finset.univ.filter fun k : Fin 512 => p (ix2 r k) = true).card : EReal) := by
  refine (Ideal.multiReduction_add_single _ _ _ _ _ _).trans ?_
  rw [Finset.natCast_card_filter]
  refine Finset.sum_congr rfl fun k _ => ?_
  refine (congrArg (fun i => (FloatOps.sitofp .f32 ((BitVec.ofBool (p i)).setWidth 32) : Ideal .f32)) (lift_row r k)).trans ?_
  exact bit_float _

/-- The places before `i` where a row's bit is set, counted by a product with the strictly upper triangle of ones. -/
theorem before_float (p q : S512x512.Idx → Bool) (hq : ∀ j i : Fin 512, q (ix2 j i) = decide (j < i)) (r i : Fin 512) :
    (matmul dot_S512x512_S512x512_S512x512_1_0_0_1_n_n none
        (sitofp .f32 (extui 32 (fun i => BitVec.ofBool (p i)) natLt_1_32) : FVec Ideal S512x512 .f32)
        (sitofp .f32 (extui 32 (fun i => BitVec.ofBool (q i)) natLt_1_32) : FVec Ideal S512x512 .f32)
        (constant S512x512 .f32 0x00000000#32) (ix2 r i) : EReal)
      = ((Finset.univ.filter fun k : Fin 512 => p (ix2 r k) = true ∧ k < i).card : EReal) := by
  have hr : (dot_S512x512_S512x512_S512x512_1_0_0_1_n_n : DotDims S512x512 S512x512 S512x512).contr.rank = 1 := rfl
  simp only [matmul]
  rw [Ideal.matmul_constant_zero_apply, ← Equiv.sum_comp (contrEquiv1 dot_S512x512_S512x512_S512x512_1_0_0_1_n_n 512 hr rfl).symm, Finset.natCast_card_filter]
  refine Finset.sum_congr rfl fun k _ => ?_
  have hl : (dot_S512x512_S512x512_S512x512_1_0_0_1_n_n : DotDims S512x512 S512x512 S512x512).lhsIdx (ix2 r i)
      ((contrEquiv1 dot_S512x512_S512x512_S512x512_1_0_0_1_n_n 512 hr rfl).symm k) = ix2 r k := by
    funext a
    match a with
    | ⟨0, _⟩ => rfl
    | ⟨1, _⟩ => rfl
  have hr' : (dot_S512x512_S512x512_S512x512_1_0_0_1_n_n : DotDims S512x512 S512x512 S512x512).rhsIdx (ix2 r i)
      ((contrEquiv1 dot_S512x512_S512x512_S512x512_1_0_0_1_n_n 512 hr rfl).symm k) = ix2 k i := by
    funext a
    match a with
    | ⟨0, _⟩ => rfl
    | ⟨1, _⟩ => rfl
  rw [hl, hr']
  show (FloatOps.sitofp .f32 ((BitVec.ofBool (p (ix2 r k))).setWidth 32) : Ideal .f32) * (FloatOps.sitofp .f32 ((BitVec.ofBool (q (ix2 k i))).setWidth 32) : Ideal .f32) = _
  rw [bit_float, bit_float, hq]
  by_cases h1 : p (ix2 r k) = true <;> by_cases h2 : k < i <;> simp [h1, h2]

/-- The literal 256. -/
theorem ofBits_256 : (Scalar.ofBits .f32 0x43800000#32 : Ideal .f32) = ((256 : ℕ) : EReal) := by
  show Ideal.ofBits .f32 0x43800000#32 = _
  simp [Ideal.ofBits, Ideal.ieee]
  rw [← EReal.coe_mul]
  norm_num
  rfl

/-- The triangle's entry: position `j` is before position `i`. -/
theorem lower (j i : Fin 512) : (BitVec.ofNat 32 (0 * 512 + j.val)).slt (BitVec.ofNat 32 (0 * 512 + i.val)) = decide (j < i) := by
  rw [slt_nat _ _ (by rw [BitVec.toNat_ofNat]; omega) (by rw [BitVec.toNat_ofNat]; omega), BitVec.toNat_ofNat, BitVec.toNat_ofNat,
    Nat.mod_eq_of_lt (by omega), Nat.mod_eq_of_lt (by omega)]
  exact decide_eq_decide.mpr (by rw [Fin.lt_def]; omega)

/-- A word's keep value: 1 where its rank in its row is below 256. -/
theorem pay11_apply (w : Vec Ideal S512x512 .i32) (hw : ∀ r j, key w r j < top) (r i : Fin 512) :
    (k0_pay11 (F := Ideal) (k0_pay8 w (bounds w).1) (k0_pay9 w (bounds w).1) (k0_pay10 w (bounds w).1) (Scalar.ofBits .f32 0x43800000#32) (ix2 r i) : EReal)
      = if rank (key w r) i < 256 then 1 else 0 := by
  obtain ⟨h1, h2, h3⟩ := bounds_spec w hw r
  have hA : ∀ i : Fin 512, ((k0_pay1 w (ix2 r i)).slt (broadcastTo S512x512 (bounds w).1 broadcasts_S512x1_S512x512 (ix2 r i)))
      = decide (key w r i < ((bounds w).1 (ix2 r 0)).toNat) := fun i => by
    rw [spread_apply, pay1_apply, slt_nat _ _ (lt_trans (hw r i) top_lt) (lt_of_le_of_lt h3 top_lt)]
    rfl
  have hB : ∀ i : Fin 512, ((k0_pay1 w (ix2 r i)) == (broadcastTo S512x512 (bounds w).1 broadcasts_S512x1_S512x512 (ix2 r i)))
      = decide (key w r i = ((bounds w).1 (ix2 r 0)).toNat) := fun i => by
    rw [spread_apply, pay1_apply, eq_nat]
    rfl
  have h10 : (k0_pay10 w (bounds w).1 (ix2 r i) : EReal)
      = (((Finset.univ.filter fun j => key w r j < ((bounds w).1 (ix2 r 0)).toNat).card
          + (Finset.univ.filter fun j => key w r j = ((bounds w).1 (ix2 r 0)).toNat ∧ j < i).card : ℕ) : EReal) := by
    have e1 := count_float (fun i => (k0_pay1 w i).slt (broadcastTo S512x512 (bounds w).1 broadcasts_S512x1_S512x512 i)) r
    have e2 := before_float (fun i => (k0_pay1 w i) == (broadcastTo S512x512 (bounds w).1 broadcasts_S512x1_S512x512 i))
      (fun i => (iota .tc S512x512 32 [0] iota_S512x512_d0_w32 i).slt (iota .tc S512x512 32 [1] iota_S512x512_d1_w32 i)) lower r i
    have e3 := (spread_apply (α := EReal) _ r i).trans ((column_apply (α := EReal) _ r).trans e1)
    refine (congrArg₂ (fun a b : EReal => a + b) e3 e2).trans ?_
    simp only [hA, hB, decide_eq_true_eq]
    rw [Nat.cast_add]
  have h57 : FloatOps.cmpf .olt (k0_pay10 w (bounds w).1 (ix2 r i) : Ideal .f32) (Scalar.ofBits .f32 0x43800000#32)
      = BitVec.ofBool (decide (((Finset.univ.filter fun j => key w r j < ((bounds w).1 (ix2 r 0)).toNat).card
          + (Finset.univ.filter fun j => key w r j = ((bounds w).1 (ix2 r 0)).toNat ∧ j < i).card) < 256)) := by
    refine (congrArg₂ (Ideal.cmp .olt) h10 ofBits_256).trans ?_
    refine congrArg BitVec.ofBool (decide_eq_decide.mpr ?_)
    exact EReal.natCast_lt_iff
  have hor : ∀ p q s : Bool, IntOp.ori (BitVec.ofBool p) (IntOp.andi (BitVec.ofBool q) (BitVec.ofBool s)) = BitVec.ofBool (p || (q && s)) := by decide
  show (FloatOps.sitofp .f32 ((IntOp.ori (BitVec.ofBool ((k0_pay1 w (ix2 r i)).slt (broadcastTo S512x512 (bounds w).1 broadcasts_S512x1_S512x512 (ix2 r i))))
    (IntOp.andi (BitVec.ofBool ((k0_pay1 w (ix2 r i)) == (broadcastTo S512x512 (bounds w).1 broadcasts_S512x1_S512x512 (ix2 r i))))
      (FloatOps.cmpf .olt (k0_pay10 w (bounds w).1 (ix2 r i) : Ideal .f32) (Scalar.ofBits .f32 0x43800000#32)))).setWidth 32) : Ideal .f32) = _
  rw [h57, hA, hB, hor]
  refine (bit_float _).trans (if_congr ?_ rfl rfl)
  rw [rank_lt_iff _ 256 _ h1 h2 i, Bool.or_eq_true, Bool.and_eq_true, decide_eq_true_eq, decide_eq_true_eq, decide_eq_true_eq]

/-- A word's keep value: 1 where its rank in its row is below 256. -/
theorem keepOf_apply (w : Vec Ideal S512x512 .i32) (hw : ∀ r j, key w r j < top) (r i : Fin 512) :
    (keepOf w (ix2 r i) : EReal) = if rank (key w r) i < 256 then 1 else 0 := by
  refine Eq.trans ?_ (pay11_apply w hw r i)
  unfold keepOf k0_pay12
  exact whole_apply (α := EReal) _ (ix2 r i)

/-- The literal 1. -/
theorem ofBits_one : (Ideal.ofBits .f32 0x3F800000#32 : EReal) = 1 := by
  simp [Ideal.ofBits, Ideal.ieee]
  rw [← EReal.coe_mul]
  norm_num

/-- A word's mask value: 0 where its rank in its row is below 256, 1 elsewhere. -/
theorem maskOf_apply (w : Vec Ideal S512x512 .i32) (hw : ∀ r j, key w r j < top) (r i : Fin 512) :
    (maskOf w (ix2 r i) : EReal) = if rank (key w r) i < 256 then 0 else 1 := by
  have e : (maskOf w (ix2 r i) : EReal) = Ideal.ofBits .f32 0x3F800000#32
    - (k0_pay11 (F := Ideal) (k0_pay8 w (bounds w).1) (k0_pay9 w (bounds w).1) (k0_pay10 w (bounds w).1) (Scalar.ofBits .f32 0x43800000#32) (ix2 r i) : EReal) := rfl
  rw [e, pay11_apply w hw, ofBits_one]
  split
  · norm_num
    rw [← EReal.coe_one, ← EReal.coe_sub]; norm_num
  · norm_num

end Cert.KernelIdeal.Hand

end
-- ==== Proof.KernelValue.lean ====
/-
  The kernel program's host lines as values: the words the region searches over are the words of the noise, and its two
  results are the argument times the keep values and the mask values, put back in the argument's order.
-/
module

public import proofs.«01_k».proof.Proof.Noise
public import proofs.«01_k».proof.Proof.Words
public import proofs.«01_k».proof.Proof.Bisect
public import proofs.«01_k».proof.Proof.Gen.KernelIdeal.Frame

@[expose] public section

set_option maxRecDepth 16384

noncomputable section

namespace Cert.KernelIdeal.Hand

open Cert.KernelIdeal Cert.KernelIdeal.Gen Cert.Words
open Idealize.ShloMosaic Idealize.ShloMosaic.TcCoe Idealize.ShloMosaic.ValueIdx Idealize.ShloMosaic.StableHlo
open Idealize.SL.Sem

/-- Contents of the device's buffers. -/
abbrev Vals := Valuation τ sig (Elt Ideal)

/-- One line after another. -/
theorem after_app {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

/-! ## The noise -/

set_option maxHeartbeats 2000000 in
/-- The generator's last steps, from the lower and upper ends of the range and the generated words. -/
theorem last_steps (V : Vals) (h2 : V (Proc.devRef .tc main_call0_v2) = fun _ => Ideal.ofBits .f32 0x00000000#32)
    (h3 : V (Proc.devRef .tc main_call0_v3) = fun _ => Ideal.ofBits .f32 0x3F800000#32) (i : S32x16x512.Idx) :
    (after (((hostOps0 ++ hostOps0_1).drop 261).take 18) V (Proc.devRef .tc main_v7) i : EReal)
      = noiseOf (IntOp.xori (V (Proc.devRef .tc main_call0_v23_0) i) (V (Proc.devRef .tc main_call0_v23_1) i)) := by
  after_reads_simp
  try simp only [TRef.ofBuf_toBuf]
  rw [h2, h3]
  rfl

set_option maxHeartbeats 2000000 in
/-- The range's lower end before them, -/
theorem lower_end (V : Vals) : after ((hostOps0 ++ hostOps0_1).take 261) V (Proc.devRef .tc main_call0_v2) = fun _ => Ideal.ofBits .f32 0x00000000#32 := by
  after_reads_simp
  try simp only [TRef.ofBuf_toBuf]
  rfl

set_option maxHeartbeats 2000000 in
/-- and its upper end. -/
theorem upper_end (V : Vals) : after ((hostOps0 ++ hostOps0_1).take 261) V (Proc.devRef .tc main_call0_v3) = fun _ => Ideal.ofBits .f32 0x3F800000#32 := by
  after_reads_simp
  try simp only [TRef.ofBuf_toBuf]
  rfl

/-- The noise, as the host lines before the region leave it. -/
def noise (V : Vals) : S32x16x512.Idx → EReal := after (hostOps0 ++ hostOps0_1) V (Proc.devRef .tc main_v7)

/-- Each entry of the noise is the draw of some word. -/
theorem noise_form (V : Vals) : ∃ b : S32x16x512.Idx → BitVec 32, ∀ i, noise V i = noiseOf (b i) := by
  refine ⟨fun i => IntOp.xori (after ((hostOps0 ++ hostOps0_1).take 261) V (Proc.devRef .tc main_call0_v23_0) i)
    (after ((hostOps0 ++ hostOps0_1).take 261) V (Proc.devRef .tc main_call0_v23_1) i), fun i => ?_⟩
  unfold noise
  rw [show ((hostOps0 ++ hostOps0_1 : List (HloOp τ sig (Elt Ideal)))) = (hostOps0 ++ hostOps0_1).take (261 + 18) from rfl, Noise.after_cut]
  exact last_steps _ (lower_end V) (upper_end V) i

/-- The noise as a number of 2 ^ -23. -/
theorem noise_nat (V : Vals) : ∃ k : S32x16x512.Idx → ℕ, (∀ i, k i < 2 ^ 23) ∧ ∀ i, noise V i = (((k i : ℝ) / 2 ^ 23 : ℝ) : EReal) := by
  obtain ⟨b, hb⟩ := noise_form V
  exact ⟨fun i => frac (b i), fun i => frac_lt _, fun i => (hb i).trans (noiseOf_eq _)⟩

/-! ## The words, and the argument transposed -/

set_option maxHeartbeats 2000000 in
/-- The words of a noise. -/
theorem words_line (V : Vals) (i : S32x16x512.Idx) :
    after hostOps0_2 V (Proc.devRef .tc main_v8) i = unitWord (V (Proc.devRef .tc main_v7) i) := by
  after_reads_simp
  try simp only [TRef.ofBuf_toBuf]
  rfl

set_option maxHeartbeats 2000000 in
/-- The words' line leaves the argument. -/
theorem words_line_arg (V : Vals) : after hostOps0_2 V (Proc.devRef .tc main_arg0) = V (Proc.devRef .tc main_arg0) := by
  after_reads_simp

set_option maxHeartbeats 2000000 in
/-- The noise's line leaves the argument. -/
theorem noise_line_arg (V : Vals) : after (hostOps0 ++ hostOps0_1) V (Proc.devRef .tc main_arg0) = V (Proc.devRef .tc main_arg0) := by
  after_reads_simp

/-- The row of the region's arrays that holds rows `a`, `b` of the argument's. -/
def row (a : Fin 32) (b : Fin 16) : Fin 512 := ⟨16 * a.val + b.val, by have := a.isLt; have := b.isLt; omega⟩

/-- The words a row at a time. -/
theorem words_rows (V : Vals) (a : Fin 32) (b : Fin 16) (j : Fin 512) :
    after hostOps0_3 V (Proc.devRef .tc main_v9) (ix2 (row a b) j) = V (Proc.devRef .tc main_v8) (ix3 a b j) := by
  after_reads_simp
  refine shapeCast_apply _ _ _ _ ?_
  show ((⟨3, ![32, 16, 512]⟩ : Shape).rowMajor (ix3 a b j)).val = ((⟨2, ![512, 512]⟩ : Shape).rowMajor (ix2 (row a b) j)).val
  rw [Shape.rowMajor_val_three, Shape.rowMajor_val_two]
  show (a.val * 16 + b.val) * 512 + j.val = (16 * a.val + b.val) * 512 + j.val
  omega

/-- The argument transposed, a row at a time. -/
theorem arg_rows (V : Vals) (a : Fin 32) (b : Fin 16) (d : Fin 64) (j : Fin 512) :
    after hostOps0_3 V (Proc.devRef .tc main_v11) (ix3 (row a b) d j) = V (Proc.devRef .tc main_arg0) (ix4 a b j d) := by
  after_reads_simp
  refine (shapeCast_apply _ _ _ (ix4 a b d j) ?_).trans ?_
  · show ((⟨4, ![32, 16, 64, 512]⟩ : Shape).rowMajor (ix4 a b d j)).val = ((⟨3, ![512, 64, 512]⟩ : Shape).rowMajor (ix3 (row a b) d j)).val
    rw [Shape.rowMajor_val_three, Shape.rowMajor_val_four]
    show ((a.val * 16 + b.val) * 64 + d.val) * 512 + j.val = ((16 * a.val + b.val) * 64 + d.val) * 512 + j.val
    omega
  · exact transpose_apply _ _ _ _ _ (fun b => by fin_cases b <;> rfl)

end Cert.KernelIdeal.Hand

end
-- ==== Proof.BodyRun.lean ====
module

public import proofs.«01_k».proof.Proof.Value

@[expose] public section

set_option maxRecDepth 16384

noncomputable section

/-! # The body's run with its buffers whole: the windows it is cut into joined again -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

/-! ## Buffers cut into windows -/

section Cut

variable (c : Dev nD)

/-- The eight chunks of a whole array of the argument's shape are apart. -/
theorem chunks_apart {sp : Space} (M : Memref sig .tc sp S512x64x512 .f32) (a b : Fin 8) (h : a ≠ b) :
    Disjoint (M.view.setOn (chunk (64 * a.val) (chunk_le a.val a.isLt)).set) (M.view.setOn (chunk (64 * b.val) (chunk_le b.val b.isLt)).set) :=
  View.disjoint_setOn _ (lead_disjoint (s := S512x64x512) (NB := 8) 0 64 (fun k => ![64 * k.val, 0, 0]) S64x64x512.size
    (fun k => chunk_le k.val k.isLt) (fun _ => rfl) rfl a b h)

/-- They cover it. -/
theorem chunks_cover : Finset.univ.biUnion (fun k : Fin 8 => (chunk (64 * k.val) (chunk_le k.val k.isLt)).set) = Finset.univ :=
  lead_cover (s := S512x64x512) (NB := 8) 0 64 (fun k => ![64 * k.val, 0, 0]) S64x64x512.size
    (fun k => chunk_le k.val k.isLt) (fun _ => rfl) (fun b a ha => by fin_cases a <;> first | exact absurd rfl ha | rfl)
    rfl (fun a ha => by fin_cases a <;> first | exact absurd rfl ha | rfl) rfl

/-- A view's elements under a cover of its shape are all its elements. -/
theorem setOn_cover {κ : Kind} {sp : Space} {s : Shape} {e : EltTy} {n : ℕ} (v : View sig κ sp s e) (R : Fin n → Finset s.Idx)
    (h : Finset.univ.biUnion R = Finset.univ) : Finset.univ.biUnion (fun k => v.setOn (R k)) = v.set := by
  ext i
  simp only [Finset.mem_biUnion, Finset.mem_univ, true_and, View.set, View.setOn, Finset.mem_map]
  constructor
  · rintro ⟨k, x, -, e⟩; exact ⟨x, e⟩
  · rintro ⟨x, e⟩
    have hx : x ∈ Finset.univ.biUnion R := h ▸ Finset.mem_univ x
    obtain ⟨k, -, hk⟩ := Finset.mem_biUnion.mp hx
    exact ⟨k, x, hk, e⟩

/-- The six slots of the ring are apart. -/
theorem slots_apart (a b : Fin 6) (h : a ≠ b) :
    Disjoint (bM.view.setOn (slot a.val (slot_le a.val a.isLt)).set) (bM.view.setOn (slot b.val (slot_le b.val b.isLt)).set) :=
  View.disjoint_setOn _ (lead_disjoint (s := S6x64x64x512) (NB := 6) 0 1 (fun k => ![k.val, 0, 0, 0]) S1x64x64x512.size
    (fun k => slot_le k.val k.isLt) (fun k => by show k.val = 1 * k.val; omega) rfl a b h)

/-- They cover it. -/
theorem slots_cover : Finset.univ.biUnion (fun k : Fin 6 => (slot k.val (slot_le k.val k.isLt)).set) = Finset.univ :=
  lead_cover (s := S6x64x64x512) (NB := 6) 0 1 (fun k => ![k.val, 0, 0, 0]) S1x64x64x512.size
    (fun k => slot_le k.val k.isLt) (fun k => by show k.val = 1 * k.val; omega) (fun b a ha => by fin_cases a <;> first | exact absurd rfl ha | rfl)
    rfl (fun a ha => by fin_cases a <;> first | exact absurd rfl ha | rfl) rfl

/-- The argument's array held whole is its eight chunks. -/
theorem xM_chunks (f : BufOf (F := F) c xM) : (xM.view.loc (c : Thread nD τ) ↦{fullShare} f : sProp 𝕄)
    = iprop(win c xM (chunk 0 (by decide)) f ∗ win c xM (chunk 64 (by decide)) f ∗ win c xM (chunk 128 (by decide)) f ∗ win c xM (chunk 192 (by decide)) f ∗ win c xM (chunk 256 (by decide)) f ∗ win c xM (chunk 320 (by decide)) f ∗ win c xM (chunk 384 (by decide)) f ∗ win c xM (chunk 448 (by decide)) f) := by
  rw [pointsTo_blocks (fun k : Fin 8 => xM.view.setOn (chunk (64 * k.val) (chunk_le k.val k.isLt)).set) (chunks_apart xM)
    ((setOn_cover xM.view _ chunks_cover).trans (View.set_whole _)) f,
    BI.bigSep_univ_eq_bigSepL [(0 : Fin 8), 1, 2, 3, 4, 5, 6, 7] (by decide) (by decide)]
  rfl

/-- The result's array held whole is its eight chunks. -/
theorem oM_chunks (f : BufOf (F := F) c oM) : (oM.view.loc (c : Thread nD τ) ↦{fullShare} f : sProp 𝕄)
    = iprop(win c oM (chunk 0 (by decide)) f ∗ win c oM (chunk 64 (by decide)) f ∗ win c oM (chunk 128 (by decide)) f ∗ win c oM (chunk 192 (by decide)) f ∗ win c oM (chunk 256 (by decide)) f ∗ win c oM (chunk 320 (by decide)) f ∗ win c oM (chunk 384 (by decide)) f ∗ win c oM (chunk 448 (by decide)) f) := by
  rw [pointsTo_blocks (fun k : Fin 8 => oM.view.setOn (chunk (64 * k.val) (chunk_le k.val k.isLt)).set) (chunks_apart oM)
    ((setOn_cover oM.view _ chunks_cover).trans (View.set_whole _)) f,
    BI.bigSep_univ_eq_bigSepL [(0 : Fin 8), 1, 2, 3, 4, 5, 6, 7] (by decide) (by decide)]
  rfl

/-- The ring held whole is its six slots; -/
theorem bM_slots (f : BufOf (F := F) c bM) : (bM.view.loc (c : Thread nD τ) ↦{fullShare} f : sProp 𝕄)
    = iprop(win c bM (slot 0 (by decide)) f ∗ win c bM (slot 1 (by decide)) f ∗ win c bM (slot 2 (by decide)) f ∗ win c bM (slot 3 (by decide)) f ∗ win c bM (slot 4 (by decide)) f ∗ win c bM (slot 5 (by decide)) f) := by
  rw [pointsTo_blocks (fun k : Fin 6 => bM.view.setOn (slot k.val (slot_le k.val k.isLt)).set) slots_apart
    ((setOn_cover bM.view _ slots_cover).trans (View.set_whole _)) f,
    BI.bigSep_univ_eq_bigSepL [(0 : Fin 6), 1, 2, 3, 4, 5] (by decide) (by decide)]
  rfl

/-- and its slots, each at some contents, are the ring at some contents. -/
theorem bM_join (f₀ : BufOf (F := F) c bM) :
    iprop((∃ f, win c bM (slot 0 (by decide)) f) ∗ (∃ f, win c bM (slot 1 (by decide)) f) ∗ (∃ f, win c bM (slot 2 (by decide)) f) ∗ (∃ f, win c bM (slot 3 (by decide)) f) ∗ (∃ f, win c bM (slot 4 (by decide)) f) ∗ (∃ f, win c bM (slot 5 (by decide)) f))
      ⊢ (iprop(∃ g, bM.view.loc (c : Thread nD τ) ↦{fullShare} g) : sProp 𝕄) := by
  refine BIBase.Entails.trans (Entails.of_eq ?_) (pointsTo_blocks_join_exists (fun k : Fin 6 => bM.view.setOn (slot k.val (slot_le k.val k.isLt)).set) slots_apart
    ((setOn_cover bM.view _ slots_cover).trans (View.set_whole _)) f₀)
  rw [BI.bigSep_univ_eq_bigSepL [(0 : Fin 6), 1, 2, 3, 4, 5] (by decide) (by decide)]
  rfl

end Cut

/-! ## The first result in one piece -/

/-- The first result, transposed: the transposed argument times the keep value of its row and place. -/
def outVal (fx : FVec F S512x64x512 .f32) (kp : FVec F S512x512 .f32) : FVec F S512x64x512 .f32 :=
  mulf fx fun i => kp (ix2 (i 0) (i 2))

/-- Chunk `k` of the transposed argument, at an index. -/
theorem chunkOf_apply (k : ℕ) (hk : k < 8) (fx : xM.view.ty.Contents (Elt F)) (x : S64x64x512.Idx) :
    chunkOf k hk fx x = View.read (Elt F) xM.view fx ((chunk (64 * k) (chunk_le k hk)).emb x) := rfl

/-- The transposed argument's array, and the first result's, read whole are their contents. -/
theorem xM_read (fx : xM.view.ty.Contents (Elt F)) : View.read (Elt F) xM.view fx = fx := View.read_whole ..
/-- A read of the whole first result is its contents. -/
theorem oM_read (fo : oM.view.ty.Contents (Elt F)) : View.read (Elt F) oM.view fo = fo := View.read_whole ..

/-- A chunk of the first result as the body leaves it is its part of the result. -/
theorem outPay_apply (k : ℕ) (hk : k < 8) (fx : FVec F S512x64x512 .f32) (kp : FVec F S512x512 .f32) (x : S64x64x512.Idx) :
    outPay k hk (chunkOf k hk fx) kp x = outVal fx kp ((chunk (64 * k) (chunk_le k hk)).emb x) := by
  show FloatOps.mulf (chunkOf k hk fx x) (kp _) = FloatOps.mulf (fx ((chunk (64 * k) (chunk_le k hk)).emb x)) (kp _)
  rw [chunkOf_apply, xM_read]
  refine congrArg (FloatOps.mulf _) (congrArg kp (congrArg₂ ix2 (Fin.ext ?_) (Fin.ext ?_)))
  · show 64 * k + (x 0).val = 64 * k + 1 * (x 0).val; omega
  · show (x 2).val = 0 + 1 * (x 2).val; omega

/-- On its own elements a chunk written with its part of the result is the result. -/
theorem chunk_written (c : Dev nD) (k : ℕ) (hk : k < 8) (h) (fo : BufOf (F := F) c oM) (fx : FVec F S512x64x512 .f32) (kp : FVec F S512x512 .f32) :
    (win c oM (chunk (64 * k) h) (oM.view.writes (Elt F) fo [⟨chunk (64 * k) h, outPay k hk (chunkOf k hk fx) kp⟩]) : sProp 𝕄)
      = win c oM (chunk (64 * k) h) (outVal fx kp) := by
  refine pointsTo_congr fun i hi => ?_
  obtain ⟨y, hy, rfl⟩ := Finset.mem_map.mp hi
  obtain ⟨x, rfl⟩ := LoadRect.exists_idx_of_mem _ hy
  have e := View.read_writes_cons_emb oM.view fo (chunk (64 * k) h) (outPay k hk (chunkOf k hk fx) kp) [] x
  rw [oM_read, outPay_apply] at e
  exact e

/-- A read through a memref's full rectangle is the memref read whole. -/
theorem words_eq (c : Dev nD) (arg0 : Memref sig .tc .vmem S512x512 .i32) (f0 : BufOf (F := F) c arg0) :
    words c arg0 f0 = arg0.view.read (Elt F) f0 := by
  funext x
  unfold words
  rw [View.readAt_apply]
  refine congrArg (arg0.view.read (Elt F) f0) ?_
  funext a
  refine Fin.ext ?_
  fin_cases a
  · show 0 + 1 * (x 0).val = (x 0).val; omega
  · show 0 + 1 * (x 1).val = (x 1).val; omega

/-- A window written whole reads back what was written. -/
theorem full_read (v : View sig .tc .vmem S512x512 .f32) (f : v.ty.Contents (Elt F)) (w : FVec F S512x512 .f32) :
    v.read (Elt F) (v.writes (Elt F) f [⟨Rect.unit (s := S512x512) ![0, 0] S512x512.size inb_S512x512_S512x512_0_0, w⟩]) = w := by
  funext x
  refine View.read_writes_cons_hit_of_coords v f (Rect.unit (s := S512x512) ![0, 0] S512x512.size inb_S512x512_S512x512_0_0) w [] x x fun a => ?_
  match a with
  | ⟨0, _⟩ => show (x 0).val = 0 + 1 * (x 0).val; omega
  | ⟨1, _⟩ => show (x 1).val = 0 + 1 * (x 1).val; omega

/-! ## The body's run, its buffers whole -/

set_option maxHeartbeats 2000000 in
/-- The body's run with its buffers whole: the second result's staging buffer ends with the words' mask values written
    over it, the first result's array with `outVal` of the transposed argument and the words' keep values. -/
theorem body_run (c : Dev nD) (arg0 : Memref sig .tc .vmem S512x512 .i32) (harg0 : arg0.IsWhole)
    (arg3 : Memref sig .tc .vmem S512x512 .f32) (harg3 : arg3.IsWhole)
    (f0 : BufOf (F := F) c arg0) (fx : BufOf (F := F) c xM) (fb : BufOf (F := F) c bM)
    (fo : BufOf (F := F) c oM) (fk : BufOf (F := F) c kM) (f3 : BufOf (F := F) c arg3) (W : Waits sig Unit) (K : PUnit → sProp 𝕄) :
    iprop((arg0.view.loc (c : Thread nD τ) ↦[arg0.view.set]{fullShare} f0)
        ∗ (arg3.view.loc (c : Thread nD τ) ↦[arg3.view.set]{fullShare} f3)
        ∗ (kM.view.loc (c : Thread nD τ) ↦{fullShare} fk)
        ∗ (bM.view.loc (c : Thread nD τ) ↦{fullShare} fb)
        ∗ (xM.view.loc (c : Thread nD τ) ↦{fullShare} fx)
        ∗ (oM.view.loc (c : Thread nD τ) ↦{fullShare} fo)
        ∗ (semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0)
        ∗ (semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0)
        ∗ owes (c : Thread nD τ) 0 W
        ∗ (iprop((arg0.view.loc (c : Thread nD τ) ↦[arg0.view.set]{fullShare} f0)
            ∗ (arg3.view.loc (c : Thread nD τ) ↦[arg3.view.set]{fullShare} arg3.view.writes (Elt F) f3
                [⟨Rect.unit (s := S512x512) ![0, 0] S512x512.size inb_S512x512_S512x512_0_0, maskOf (arg0.view.read (Elt F) f0)⟩])
            ∗ (∃ f, kM.view.loc (c : Thread nD τ) ↦{fullShare} f)
            ∗ (∃ f, bM.view.loc (c : Thread nD τ) ↦{fullShare} f)
            ∗ (xM.view.loc (c : Thread nD τ) ↦{fullShare} fx)
            ∗ (oM.view.loc (c : Thread nD τ) ↦{fullShare} outVal fx (keepOf (arg0.view.read (Elt F) f0)))
            ∗ (semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0)
            ∗ (semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0)
            ∗ (∃ W', owes (c : Thread nD τ) 0 W')) -∗ K ⟨⟩))
      ⊢ wp frame (wpE (defs₀ (F := F)) Variants.none c none) Set.univ
          (cc0__masked_fill_kernel arg0 harg0 xM (Memref.isWhole_whole _) oM (Memref.isWhole_whole _) arg3 harg3
            kM (Memref.isWhole_whole _) bM (Memref.isWhole_whole _) cc0_scratch2 cc0_scratch3) K := by
  have hrun := (kernelRun c arg0 harg0 arg3 harg3 f0 fx fb).2 fo fk f3 W K
  rw [kernelRun_eq, words_eq] at hrun
  dsimp only at hrun
  rw [show win c oM (chunk 0 (by decide)) (oM.view.writes (Elt F) fo [⟨chunk 0 (by decide), outPay 0 (by omega) (chunkOf 0 (by omega) fx) (keepOf (arg0.view.read (Elt F) f0))⟩]) = win c oM (chunk 0 (by decide)) (outVal fx (keepOf (arg0.view.read (Elt F) f0))) from chunk_written c 0 (by omega) _ fo fx _] at hrun
  rw [show win c oM (chunk 64 (by decide)) (oM.view.writes (Elt F) fo [⟨chunk 64 (by decide), outPay 1 (by omega) (chunkOf 1 (by omega) fx) (keepOf (arg0.view.read (Elt F) f0))⟩]) = win c oM (chunk 64 (by decide)) (outVal fx (keepOf (arg0.view.read (Elt F) f0))) from chunk_written c 1 (by omega) _ fo fx _] at hrun
  rw [show win c oM (chunk 128 (by decide)) (oM.view.writes (Elt F) fo [⟨chunk 128 (by decide), outPay 2 (by omega) (chunkOf 2 (by omega) fx) (keepOf (arg0.view.read (Elt F) f0))⟩]) = win c oM (chunk 128 (by decide)) (outVal fx (keepOf (arg0.view.read (Elt F) f0))) from chunk_written c 2 (by omega) _ fo fx _] at hrun
  rw [show win c oM (chunk 192 (by decide)) (oM.view.writes (Elt F) fo [⟨chunk 192 (by decide), outPay 3 (by omega) (chunkOf 3 (by omega) fx) (keepOf (arg0.view.read (Elt F) f0))⟩]) = win c oM (chunk 192 (by decide)) (outVal fx (keepOf (arg0.view.read (Elt F) f0))) from chunk_written c 3 (by omega) _ fo fx _] at hrun
  rw [show win c oM (chunk 256 (by decide)) (oM.view.writes (Elt F) fo [⟨chunk 256 (by decide), outPay 4 (by omega) (chunkOf 4 (by omega) fx) (keepOf (arg0.view.read (Elt F) f0))⟩]) = win c oM (chunk 256 (by decide)) (outVal fx (keepOf (arg0.view.read (Elt F) f0))) from chunk_written c 4 (by omega) _ fo fx _] at hrun
  rw [show win c oM (chunk 320 (by decide)) (oM.view.writes (Elt F) fo [⟨chunk 320 (by decide), outPay 5 (by omega) (chunkOf 5 (by omega) fx) (keepOf (arg0.view.read (Elt F) f0))⟩]) = win c oM (chunk 320 (by decide)) (outVal fx (keepOf (arg0.view.read (Elt F) f0))) from chunk_written c 5 (by omega) _ fo fx _] at hrun
  rw [show win c oM (chunk 384 (by decide)) (oM.view.writes (Elt F) fo [⟨chunk 384 (by decide), outPay 6 (by omega) (chunkOf 6 (by omega) fx) (keepOf (arg0.view.read (Elt F) f0))⟩]) = win c oM (chunk 384 (by decide)) (outVal fx (keepOf (arg0.view.read (Elt F) f0))) from chunk_written c 6 (by omega) _ fo fx _] at hrun
  rw [show win c oM (chunk 448 (by decide)) (oM.view.writes (Elt F) fo [⟨chunk 448 (by decide), outPay 7 (by omega) (chunkOf 7 (by omega) fx) (keepOf (arg0.view.read (Elt F) f0))⟩]) = win c oM (chunk 448 (by decide)) (outVal fx (keepOf (arg0.view.read (Elt F) f0))) from chunk_written c 7 (by omega) _ fo fx _] at hrun
  rw [← xM_chunks c fx, ← oM_chunks c fo, ← oM_chunks c (outVal fx (keepOf (arg0.view.read (Elt F) f0))), ← bM_slots c fb] at hrun
  refine BIBase.Entails.trans ?_ hrun
  iintro ⟨H0, H3, HK, HB, HX, HO, HL, HS, HW, Hk⟩
  isplitl [H0]; · iexact H0
  isplitl [H3]; · iexact H3
  isplitl [HK]; · iexact HK
  isplitl [HB]; · iexact HB
  isplitl [HX]; · iexact HX
  isplitl [HO]; · iexact HO
  isplitl [HL]; · iexact HL
  isplitl [HS]; · iexact HS
  isplitl [HW]; · iexact HW
  iintro ⟨H0, H3, HK, HB, HX, HO, HL, HS, HW⟩
  iapply Hk
  isplitl [H0]; · iexact H0
  isplitl [H3]; · iexact H3
  isplitl [HK]; · iexact HK
  isplitl [HB]; · iapply (bM_join c fb); iexact HB
  isplitl [HX]; · iexact HX
  isplitl [HO]; · iexact HO
  isplitl [HL]; · iexact HL
  isplitl [HS]; · iexact HS
  iexact HW

end Cert.KernelIdeal.Hand

end
-- ==== Proof.Launch.lean ====
module

public import proofs.«01_k».proof.Proof.BodyRun

@[expose] public section

set_option maxRecDepth 16384

noncomputable section

/-! # The launch: the body's run within the pipeline, and what @main leaves -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

/-! ## The pipeline's data -/

variable (m : (ℓ : Loc nD τ sig) → Buf (Elt F) ℓ) (ρ : Dev nD → PrngReg)

/-- The body's own cells: the load semaphores and the store semaphores. -/
abbrev osem0 : Fin 12 → SemLoc sig := fun j => (![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13] : Fin 12 → SemLoc sig) j

/-- The semaphores the body owns are no window's. -/
theorem ownSemFacts0 : Pipeline.OwnSemFacts spec0 osem0 := by decide

/-- The transposed argument: read whole by the body. -/
def H0 : Finset (Ref sig .tc) := {main_v11}
/-- The first result: written whole by the body. -/
def R0 : Finset (Ref sig .tc) := {main_v12_0}

/-- The operands left in HBM are none of the windows' buffers. -/
theorem H0_sub : H0 ⊆ Pipeline.restRefs sig spec0 := by decide
/-- The scratch buffers are neither a window's nor an operand left in HBM. -/
theorem R0_sub : R0 ⊆ Pipeline.restRefs sig spec0 \ H0 := by decide

/-- The words the region finds. -/
def inWords (c : Dev nD) : Vec F S512x512 .i32 := V m c main_v9

/-- What the region leaves in the first result's array. -/
def outArr (c : Dev nD) : FVec F S512x64x512 .f32 := outVal (V m c main_v11) (keepOf (inWords m c))

/-- The contents the region leaves: its first result's array at `outArr`. -/
def G (c : Dev nD) : (b : Ref sig .tc) → Buf (Elt F) ((c.tc : Thread nD τ).loc b) :=
  Function.update (V m c) main_v12_0 (outArr m c)

/-- The first result's contents after the launch. -/
theorem G_out (c : Dev nD) : G m c main_v12_0 = outArr m c := Function.update_self ..

/-- The cells are twelve. -/
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) := by
  rw [Pipeline.ownSems0_eq_of_list c osem0 [0, 1, 2, 3, 4, 5, 6, 7, 8, 9, 10, 11] (by decide) (by decide)]; rfl

/-- What the body keeps between its steps, buffer by buffer. -/
theorem PhiDRV_eq (A B : (c : Dev nD) → (b : Ref sig .tc) → Buf (Elt F) ((c.tc : Thread nD τ).loc b)) (c : Dev nD) :
    (Pipeline.ΦDRV osem0 spec0 H0 R0 A B c : sProp 𝕄)
      = iprop(((∃ f : BufOf (F := F) c kM, kM.view.loc (c : Thread nD τ) ↦{fullShare} f) ∗ (∃ f : BufOf (F := F) c bM, bM.view.loc (c : Thread nD τ) ↦{fullShare} f))
        ∗ (semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0)
        ∗ (xM.view.loc (c : Thread nD τ) ↦{fullShare} A c main_v11) ∗ (oM.view.loc (c : Thread nD τ) ↦{fullShare} B c main_v12_0)) := by
  unfold Pipeline.ΦDRV
  rw [scopedRest0_eq, ownSems0_eq, BI.bigSep_eq_bigSepL_of_eq [main_v11] (by decide) (by decide),
    BI.bigSep_eq_bigSepL_of_eq [main_v12_0] (by decide) (by decide)]
  rfl

set_option maxHeartbeats 800000 in
/-- @main around the region: the host lines before it, the region, the host lines after it. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3] [hostOps1]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- The one block of the words is the words' array. -/
theorem iblk_eq (c : Dev nD) (t : Fin cfg0.N) : iblk m c 0 t = inWords m c := by
  funext x
  refine congrArg (V m c main_v9) ?_
  funext a
  refine Fin.ext ?_
  fin_cases a
  · show 0 * 512 + 1 * (x 0).val = (x 0).val; omega
  · show 0 * 512 + 1 * (x 1).val = (x 1).val; omega

/-- The proof data of the pipeline on core `c`: the arrays as the region finds them, the words left in place, the mask
    values after the body, the first result's array at `outArr` once the body has run. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => maskOf (inWords m c)
  Φ t := Pipeline.ΦDRV osem0 spec0 H0 R0 (V m) (if t = 0 then V m else G m) c
  q _ := fullShare
  owed _ := 0

/-- The arrays behind the windows are the host's. -/
theorem A_eq (c : Dev nD) (w : Fin cfg0.W) : (dats m 0 c).A w = V m c (Pipeline.arrRef spec0 w) := by
  dsimp only [dats]

/-- The input window is left as it was. -/
theorem after0_0 (c : Dev nD) (t : Fin cfg0.N) : (dats m 0 c).after 0 t = iblk m c 0 t := by dsimp only [dats]
/-- The mask window is left holding the mask. -/
theorem after0_1 (c : Dev nD) (t : Fin cfg0.N) : (dats m 0 c).after 1 t = maskOf (inWords m c) := by dsimp only [dats]

/-- The words' staging buffer holds the words before the body. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

/-- What the body starts from at a step. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

set_option maxHeartbeats 2000000 in
/-- The body's run is what the pipeline asks of it. -/
theorem sound_body (c : Dev nD) (t : Fin cfg0.N) :
    bodyPre m c t ⊢ wp frame (wpE (defs₀ (F := F)) Variants.none c none) Set.univ (bodyAt0 t) (fun _ => bodyPost m c t) := by
  obtain rfl : t = t0_0 := Fin.ext (by have := t.isLt; have h : cfg0.N = 1 := rfl; show t.val = 0; omega)
  unfold bodyPre bodyPost bodyAt0
  rw [show (dats m 0 c).Φ t0_0.castSucc = Pipeline.ΦDRV osem0 spec0 H0 R0 (V m) (V m) c from rfl,
    show (dats m 0 c).Φ t0_0.succ = Pipeline.ΦDRV osem0 spec0 H0 R0 (V m) (G m) c from rfl, PhiDRV_eq, PhiDRV_eq, after0_0, after0_1, G_out, iblk_eq]
  simp only [before0_0, iblk_eq]
  unfold Dat.owesAt Pipeline.owesWithin
  rw [show (dats m 0 c).owed t0_0.castSucc = 0 from rfl, show (dats m 0 c).owed t0_0.succ = 0 from rfl]
  unfold owns
  iintro ⟨⟨⟨⟨%fk, HK⟩, ⟨%fb, HB⟩⟩, ⟨HL0, HL1, HL2, HL3, HL4, HL5, HS0, HS1, HS2, HS3, HS4, HS5⟩, HX, HO⟩, ⟨%W, -, HW⟩, ⟨%d0, %f0, %h0, H0⟩, ⟨%d1, %f3, -, H3⟩⟩
  have he : outVal (V m c main_v11) (keepOf ((st0_0 t0_0).view.read (Elt F) f0)) = outArr m c := by unfold outArr; rw [h0]
  iapply (body_run c (st0_0 t0_0) (hstage0_0 0) (st0_1 t0_0) (hstage0_1 0) f0 (V m c main_v11) fb (V m c main_v12_0) fk f3 W _)
  isplitl [H0]; · iexact H0
  isplitl [H3]; · iexact H3
  isplitl [HK]; · iexact HK
  isplitl [HB]; · iexact HB
  isplitl [HX]; · iexact HX
  isplitl [HO]; · iexact HO
  isplitl [HL0 HL1 HL2 HL3 HL4 HL5]
  · isplitl [HL0]; · iexact HL0
    isplitl [HL1]; · iexact HL1
    isplitl [HL2]; · iexact HL2
    isplitl [HL3]; · iexact HL3
    isplitl [HL4]; · iexact HL4
    iexact HL5
  isplitl [HS0 HS1 HS2 HS3 HS4 HS5]
  · isplitl [HS0]; · iexact HS0
    isplitl [HS1]; · iexact HS1
    isplitl [HS2]; · iexact HS2
    isplitl [HS3]; · iexact HS3
    isplitl [HS4]; · iexact HS4
    iexact HS5
  isplitl [HW]; · iexact HW
  iintro ⟨H0, H3, HK, HB, HX, HO, ⟨HL0, HL1, HL2, HL3, HL4, HL5⟩, ⟨HS0, HS1, HS2, HS3, HS4, HS5⟩, ⟨%W', HW'⟩⟩
  isplitl [HK HB HX HO HL0 HL1 HL2 HL3 HL4 HL5 HS0 HS1 HS2 HS3 HS4 HS5]
  · isplitl [HK HB]
    · isplitl [HK]; · iexact HK
      iexact HB
    isplitl [HL0 HL1 HL2 HL3 HL4 HL5 HS0 HS1 HS2 HS3 HS4 HS5]
    · isplitl [HL0]; · iexact HL0
      isplitl [HL1]; · iexact HL1
      isplitl [HL2]; · iexact HL2
      isplitl [HL3]; · iexact HL3
      isplitl [HL4]; · iexact HL4
      isplitl [HL5]; · iexact HL5
      isplitl [HS0]; · iexact HS0
      isplitl [HS1]; · iexact HS1
      isplitl [HS2]; · iexact HS2
      isplitl [HS3]; · iexact HS3
      isplitl [HS4]; · iexact HS4
      iexact HS5
    isplitl [HX]; · iexact HX
    rw [← he]
    iexact HO
  isplitl [HW']
  · iexists W'; isplitr; · ipureintro; exact fun _ _ => Or.inl trivial
    iexact HW'
  isplitl [H0]
  · iexists f0; isplitr; · ipureintro; exact h0
    iexact H0
  iexists _; isplitr; swap; · iexact H3
  ipureintro
  rw [h0]
  exact full_read _ f3 _

/-- The launch's body is the kernel at its windows' slots. -/
theorem defs₀_row (t : Fin cfg0.N) :
    defs₀ (F := F) .tc cfg0.body (cfg0.bodyArgs t (cfg0.slots t)) = bodyAt0 t := by
  unfold defs₀; rw [Defs.onTc_tc]

/-- The body, from what a step gives it, leaves what the step is to leave. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The contents the host lines after the region start from. -/
def exitV (c : Dev nD) : Valuation τ sig (Elt F) :=
  Pipeline.withArrays spec0 c (Pipeline.withR (V0 m c) R0 c (G m c)) fun w => (dats m 0 c).arrAt w cfg0.N

set_option backward.isDefEq.respectTransparency.types false in
/-- Every run ends with each buffer that no window stages at what the last host lines leave of the region's contents, and
    every counter at zero. -/
theorem run_main : θ_run defs (onTc (τ := τ) (main (F := F))) (s₀ m ρ) (fun r => (∀ c : Dev nD,
      ∀ b ∈ Pipeline.restRefs sig spec0, r.2.mem ((c.tc : Thread nD τ).loc b) = StableHlo.after hostOps1 (exitV m c) (Proc.devRef .tc b))
      ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmain m Variants.none) (hA := A_eq m) (hin := fun _ => .rfl) (hout := fun _ => .rfl)
    (hQ' := fun r h => ⟨fun c b hb => (by
      have e := (h.1 c).2 b hb
      simp only [List.flatten_cons, List.flatten_nil, List.append_nil] at e
      exact e), h.2⟩)

/-- The last host lines find the first result's array at `outArr`; -/
theorem exitV_out (c : Dev nD) : exitV m c (Proc.devRef .tc main_v12_0) = outArr m c := by
  unfold exitV
  rw [Pipeline.withArrays_of_ne _ _ _ _ main_v12_0 (by exact (by decide : ∀ w, Pipeline.arrRef spec0 w ≠ main_v12_0)),
    Pipeline.withR_of_mem _ _ _ _ main_v12_0 (by decide)]
  exact G_out m c

/-- the second's at the mask values; -/
theorem exitV_mask (c : Dev nD) : exitV m c (Proc.devRef .tc main_v12_1) = maskOf (inWords m c) := by
  unfold exitV
  refine (Pipeline.withArrays_arr spec0 launch0.win.arr_inj c _ _ (1 : Fin 2)).trans ?_
  refine (dats m 0 c).arrAt_eq_of_cover 1 (maskOf (inWords m c)) (fun t _ => ?_) (fun i => ⟨t0_0, flush0_1 _, ?_⟩)
  · funext x
    refine congrArg (maskOf (inWords m c)) ?_
    funext a
    refine Fin.ext ?_
    fin_cases a
    · show (x 0).val = 0 * 512 + 1 * (x 0).val; omega
    · show (x 1).val = 0 * 512 + 1 * (x 1).val; omega
  · refine Finset.mem_map.mpr ⟨i, Finset.mem_univ _, ?_⟩
    funext a
    refine Fin.ext ?_
    fin_cases a
    · show 0 * 512 + 1 * (i 0).val = (i 0).val; omega
    · show 0 * 512 + 1 * (i 1).val = (i 1).val; omega

/-- the argument as launched. -/
theorem exitV_arg (c : Dev nD) : exitV m c (Proc.devRef .tc main_arg0) = m ((c : Thread nD τ).loc main_arg0) := by
  unfold exitV
  rw [Pipeline.withArrays_of_ne _ _ _ _ main_arg0 (by exact (by decide : ∀ w, Pipeline.arrRef spec0 w ≠ main_arg0)),
    Pipeline.withR_of_not_mem _ _ _ _ main_arg0 (by decide)]
  exact V_main_arg0 m c

/-- No host line after the region writes the argument. -/
theorem arg_kept (c : Dev nD) : StableHlo.after hostOps1 (exitV m c) (Proc.devRef .tc main_arg0) = m ((c : Thread nD τ).loc main_arg0) := by
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  exact exitV_arg m c

/-- The frame: every run ends with the argument as launched and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => ((h.1 c) main_arg0 (Pipeline.mem_restRefs_of main_arg0 (by decide) (by decide))).trans (arg_kept m c), h.2⟩) (run_main m ρ)

end Cert.KernelIdeal.Hand

end
-- ==== Proof.KernelResult.lean ====
/-
  The kernel program's two results as functions of the argument and of the noise's rank along the last axis.
-/
module

public import proofs.«01_k».proof.Proof.KernelValue
public import proofs.«01_k».proof.Proof.Launch

@[expose] public section

set_option maxRecDepth 16384

noncomputable section

namespace Cert.KernelIdeal.Hand

open Cert.KernelIdeal Cert.KernelIdeal.Gen Cert.Words Cert.Order
open Idealize.ShloMosaic Idealize.ShloMosaic.TcCoe Idealize.ShloMosaic.ValueIdx Idealize.ShloMosaic.StableHlo
open Idealize.SL.Sem

/-- Two lists of keys ordered alike rank alike. -/
theorem rank_congr {n : ℕ} (k k' : Fin n → ℕ) (h : ∀ a b, k a < k b ↔ k' a < k' b) (i : Fin n) : rank k i = rank k' i := by
  unfold rank before
  refine congrArg Finset.card (Finset.filter_congr fun j _ => ?_)
  have e : k j = k i ↔ k' j = k' i := by
    have h1 := h j i; have h2 := h i j; omega
  rw [h, e]

/-- The keys of one row of the noise. -/
def keys (k : S32x16x512.Idx → ℕ) (a : Fin 32) (b : Fin 16) : Fin 512 → ℕ := fun j => k (ix3 a b j)

/-! ## The host lines after the region -/

set_option maxHeartbeats 2000000 in
/-- The first result is the region's array put back in the argument's order. -/
theorem out_line (V : Vals) (a : Fin 32) (b : Fin 16) (j : Fin 512) (d : Fin 64) :
    after hostOps1 V (Proc.devRef .tc main_v14) (ix4 a b j d) = V (Proc.devRef .tc main_v12_0) (ix3 (row a b) d j) := by
  after_reads_simp
  refine (transpose_apply _ _ _ _ (ix4 a b d j) (fun b => by fin_cases b <;> rfl)).trans ?_
  refine shapeCast_apply _ _ _ _ ?_
  show ((⟨3, ![512, 64, 512]⟩ : Shape).rowMajor (ix3 (row a b) d j)).val = ((⟨4, ![32, 16, 64, 512]⟩ : Shape).rowMajor (ix4 a b d j)).val
  rw [Shape.rowMajor_val_three, Shape.rowMajor_val_four]
  show ((16 * a.val + b.val) * 64 + d.val) * 512 + j.val = ((a.val * 16 + b.val) * 64 + d.val) * 512 + j.val
  omega

set_option maxHeartbeats 2000000 in
/-- The second result asks of each mask value whether it differs from zero. -/
theorem mask_line (V : Vals) (a : Fin 32) (b : Fin 16) (j : Fin 512) :
    after hostOps1 V (Proc.devRef .tc main_v18) (ix3 a b j)
      = Ideal.cmp .une (V (Proc.devRef .tc main_v12_1) (ix2 (row a b) j)) (Ideal.ofBits .f32 0x00000000#32) := by
  after_reads_simp
  try simp only [TRef.ofBuf_toBuf]
  refine congrArg (fun x => Ideal.cmp .une x (Ideal.ofBits .f32 0x00000000#32)) (shapeCast_apply _ _ _ _ ?_)
  show ((⟨2, ![512, 512]⟩ : Shape).rowMajor (ix2 (row a b) j)).val = ((⟨3, ![32, 16, 512]⟩ : Shape).rowMajor (ix3 a b j)).val
  rw [Shape.rowMajor_val_three, Shape.rowMajor_val_two]
  show (16 * a.val + b.val) * 512 + j.val = (a.val * 16 + b.val) * 512 + j.val
  omega

/-! ## The region's words are the noise's -/

variable (m : (ℓ : Loc nD τ sig) → Buf (Elt Ideal) ℓ) (c : Dev nD)

/-- The contents at launch. -/
def start : Vals := fun b => m (c, b)

/-- The host lines before the region one after another. -/
theorem V0_eq : V0 m c = after hostOps0_3 (after hostOps0_2 (after (hostOps0 ++ hostOps0_1) (start m c))) := by
  unfold V0 start
  rw [show (List.flatten [hostOps0, hostOps0_1, hostOps0_2, hostOps0_3] : List (HloOp τ sig (Elt Ideal)))
    = (hostOps0 ++ hostOps0_1) ++ (hostOps0_2 ++ hostOps0_3) by simp only [List.flatten_cons, List.flatten_nil, List.append_nil, List.append_assoc]]
  rw [after_app, after_app hostOps0_2]

/-- A row's words are the words of its noise. -/
theorem inWords_at (a : Fin 32) (b : Fin 16) (j : Fin 512) : inWords m c (ix2 (row a b) j) = unitWord (noise (start m c) (ix3 a b j)) := by
  refine (congrFun (congrFun (V0_eq m c) (Proc.devRef .tc main_v9)) _).trans ?_
  refine (words_rows _ a b j).trans ?_
  exact words_line _ _

/-- The region's second array at an index is the argument. -/
theorem xt_at (a : Fin 32) (b : Fin 16) (d : Fin 64) (j : Fin 512) :
    V m c main_v11 (ix3 (row a b) d j) = m ((c : Thread nD τ).loc main_arg0) (ix4 a b j d) := by
  refine (congrFun (congrFun (V0_eq m c) (Proc.devRef .tc main_v11)) _).trans ?_
  refine (arg_rows _ a b d j).trans ?_
  refine (congrFun (words_line_arg _) _).trans ?_
  exact congrFun (noise_line_arg _) _

/-- Every row of the region's arrays is the row of some pair. -/
theorem row_split (r : Fin 512) : ∃ (a : Fin 32) (b : Fin 16), r = row a b := by
  refine ⟨⟨r.val / 16, by have := r.isLt; omega⟩, ⟨r.val % 16, by omega⟩, Fin.ext ?_⟩
  show r.val = 16 * (r.val / 16) + r.val % 16
  omega

variable (k : S32x16x512.Idx → ℕ) (hk : ∀ i, k i < 2 ^ 23) (hn : ∀ i, noise (start m c) i = (((k i : ℝ) / 2 ^ 23 : ℝ) : EReal))

include hk hn in
/-- A row's keys are the words of its numbers. -/
theorem key_at (a : Fin 32) (b : Fin 16) (j : Fin 512) : key (inWords m c) (row a b) j = wordOf (k (ix3 a b j)) := by
  show (inWords m c (ix2 (row a b) j)).toNat = _
  refine (congrArg BitVec.toNat ((inWords_at m c a b j).trans (congrArg unitWord (hn _)))).trans ?_
  exact unitWord_toNat _ (hk _)

include hk hn in
/-- Every key is below the bisection's first upper bound. -/
theorem key_lt (r j : Fin 512) : key (inWords m c) r j < top := by
  obtain ⟨a, b, rfl⟩ := row_split r
  rw [key_at m c k hk hn]
  exact wordOf_lt _ (hk _)

include hk hn in
/-- A row's words rank as its numbers do. -/
theorem rank_at (a : Fin 32) (b : Fin 16) (j : Fin 512) : rank (key (inWords m c) (row a b)) j = rank (keys k a b) j := by
  refine rank_congr _ _ (fun x y => ?_) j
  rw [key_at m c k hk hn, key_at m c k hk hn]
  exact wordOf_lt_iff _ _ (hk _) (hk _)

include hk hn in
/-- The first result: the argument where the rank is below 256, zero elsewhere. -/
theorem result0 (a : Fin 32) (b : Fin 16) (j : Fin 512) (d : Fin 64) :
    (after hostOps1 (exitV m c) (Proc.devRef .tc main_v14) (ix4 a b j d) : EReal)
      = if rank (keys k a b) j < 256 then m ((c : Thread nD τ).loc main_arg0) (ix4 a b j d) else (0 : EReal) := by
  refine (out_line _ a b j d).trans ((congrFun (exitV_out m c) _).trans ?_)
  refine (congrArg₂ (fun x y : EReal => x * y) (xt_at m c a b d j) (keepOf_apply _ (key_lt m c k hk hn) (row a b) j)).trans ?_
  rw [rank_at m c k hk hn]
  by_cases h : rank (keys k a b) j < 256
  · rw [if_pos h, if_pos h]; exact mul_one _
  · rw [if_neg h, if_neg h]; exact mul_zero _

include hk hn in
/-- The second result: one where the rank is at least 256. -/
theorem result1 (a : Fin 32) (b : Fin 16) (j : Fin 512) :
    after hostOps1 (exitV m c) (Proc.devRef .tc main_v18) (ix3 a b j) = if rank (keys k a b) j < 256 then 0#1 else 1#1 := by
  refine (mask_line _ a b j).trans ?_
  refine (congrArg (fun x => Ideal.cmp .une x (Ideal.ofBits .f32 0x00000000#32))
    ((congrFun (exitV_mask m c) _).trans (maskOf_apply _ (key_lt m c k hk hn) (row a b) j))).trans ?_
  rw [rank_at m c k hk hn]
  have z : Ideal.ofBits .f32 0x00000000#32 = (0 : EReal) := Ideal.ofBits_zero_f32
  by_cases h : rank (keys k a b) j < 256
  · rw [if_pos h, if_pos h, z]; simp [Ideal.cmp]
  · rw [if_neg h, if_neg h, z]; simp [Ideal.cmp]

end Cert.KernelIdeal.Hand

end
-- ==== Proof.RefOps.lean ====
/-
  The reference's array operations read at an index: the write of zeros into the front of each row, the two sorts, and
  the gather along the last axis.
-/
module

public import proofs.«01_k».proof.ReferenceIdeal
public import proofs.«01_k».proof.Proof.Gen.ReferenceIdeal
public import proofs.«01_k».proof.Proof.Order
public import Idealize.ShloMosaic.PureOps.Ideal.Laws
public import Idealize.ShloMosaic.Lib.IdealHost
public import Idealize.ShloMosaic.Lib.ReduceAll
public import Idealize.ShloMosaic.Lib.SortFacts
public import Idealize.ShloMosaic.Lib.Pipeline.Value
public import Idealize.ShloMosaic.Lib.ValueIdx

@[expose] public section

set_option maxRecDepth 16384

noncomputable section

namespace Cert.ReferenceIdeal.Hand

open Cert.ReferenceIdeal Cert.Order
open Idealize.ShloMosaic Idealize.ShloMosaic.ValueIdx
open Facts₀ Facts

variable [Facts]

/-! ## A write of one value -/

section Scatter
open Classical

/-- A run of writes of the value `z` leaves `z` where one of them lands and the operand elsewhere. -/
theorem writes_const {α : Type} {s si u : Shape} {w : ℕ} (d : ScatterDims s si u) (idx : IVec si w) (z : α) (i : s.Idx)
    (L : List (Fin u.numel)) : ∀ x : s.Idx → α,
    L.foldl (fun r n => match d.resultIdx? (u.rowMajor.symm n) idx with
      | some i => fun i' => if i' = i then z else r i'
      | none => r) x i = if ∃ n ∈ L, d.resultIdx? (u.rowMajor.symm n) idx = some i then z else x i := by
  induction L with
  | nil => intro x; simp
  | cons n L ih =>
    intro x
    rw [List.foldl_cons, ih]
    by_cases h : ∃ n ∈ L, d.resultIdx? (u.rowMajor.symm n) idx = some i
    · rw [if_pos h, if_pos]
      obtain ⟨n', h1, h2⟩ := h
      exact ⟨n', List.mem_cons_of_mem _ h1, h2⟩
    · rw [if_neg h]
      cases hr : d.resultIdx? (u.rowMajor.symm n) idx with
      | none =>
        rw [if_neg]
        rintro ⟨n', h1, h2⟩
        rcases List.mem_cons.mp h1 with rfl | h1
        · rw [hr] at h2; cases h2
        · exact h ⟨n', h1, h2⟩
      | some i₀ =>
        by_cases e : i = i₀
        · show (if i = i₀ then z else x i) = _
          rw [if_pos e, if_pos ⟨n, List.mem_cons_self, by rw [hr, e]⟩]
        · show (if i = i₀ then z else x i) = _
          rw [if_neg e, if_neg]
          rintro ⟨n', h1, h2⟩
          rcases List.mem_cons.mp h1 with rfl | h1
          · rw [hr] at h2; exact e (Option.some.inj h2).symm
          · exact h ⟨n', h1, h2⟩

/-- The same of the whole write. -/
theorem scatter_const {α : Type} {s si u : Shape} {w : ℕ} (d : ScatterDims s si u) (x : s.Idx → α) (idx : IVec si w) (z : α) (i : s.Idx) :
    Host.scatter d (fun _ b => b) x idx (fun _ => z) i = if ∃ j : u.Idx, d.resultIdx? j idx = some i then z else x i := by
  refine (writes_const d idx z i (List.finRange u.numel) x).trans ?_
  refine if_congr ⟨fun ⟨n, _, h⟩ => ⟨_, h⟩, fun ⟨j, h⟩ => ⟨u.rowMajor j, List.mem_finRange _, ?_⟩⟩ rfl rfl
  rw [Equiv.symm_apply_apply]; exact h

end Scatter

/-- The write's dimension numbers. -/
abbrev front := scatter_S32x16x512_S1_S32x16x256_012_n_2_0

/-- The written window is the front of each row, at its own places. -/
theorem front_window (j : S32x16x256.Idx) (a : Fin 3) : front.window j a = (j a).val := by
  match a with
  | ⟨0, _⟩ => rfl
  | ⟨1, _⟩ => rfl
  | ⟨2, _⟩ => rfl

/-- It starts at the array's corner. -/
theorem front_start (j : S32x16x256.Idx) (a : Fin 3) : front.start j (fun _ => 0#32 : IVec S1 32) a = 0 := by
  match a with
  | ⟨0, _⟩ => rfl
  | ⟨1, _⟩ => rfl
  | ⟨2, _⟩ => rfl

/-- Zeros written at the front leave zero below 256 and the operand from there on. -/
theorem front_apply {α : Type} (x : S32x16x512.Idx → α) (z : α) (a : Fin 32) (b : Fin 16) (j : Fin 512) :
    Host.scatter front (fun _ b => b) x (fun _ => 0#32 : IVec S1 32) (fun _ => z) (ix3 a b j) = if j.val < 256 then z else x (ix3 a b j) := by
  refine (scatter_const front x _ z _).trans (if_congr ⟨?_, fun h => ⟨ix3 a b ⟨j.val, h⟩, ?_⟩⟩ rfl rfl)
  · rintro ⟨j', h⟩
    unfold ScatterDims.resultIdx? at h
    split at h
    · have h2 := congrArg Fin.val (congrFun (Option.some.inj h) (2 : Fin 3))
      have e : (front.start j' (fun _ => 0#32 : IVec S1 32) (2 : Fin 3) + front.window j' (2 : Fin 3)).toNat = j.val := h2
      rw [front_start, front_window] at e
      have := (j' (2 : Fin 3)).isLt
      have l : (j' (2 : Fin 3)).val < 256 := this
      omega
    · cases h
  · unfold ScatterDims.resultIdx?
    rw [dif_pos]
    · refine congrArg some (funext fun c => Fin.ext ?_)
      show (front.start _ _ c + front.window _ c).toNat = _
      rw [front_start, front_window]
      match c with
      | ⟨0, _⟩ => show (0 + (a.val : ℤ)).toNat = a.val; omega
      | ⟨1, _⟩ => show (0 + (b.val : ℤ)).toNat = b.val; omega
      | ⟨2, _⟩ => show (0 + (j.val : ℤ)).toNat = j.val; omega
    · intro c
      rw [front_start, front_window]
      match c with
      | ⟨0, _⟩ => exact ⟨by show 0 ≤ 0 + (a.val : ℤ); omega, by show 0 + (a.val : ℤ) < (32 : ℕ); have := a.isLt; omega⟩
      | ⟨1, _⟩ => exact ⟨by show 0 ≤ 0 + (b.val : ℤ); omega, by show 0 + (b.val : ℤ) < (16 : ℕ); have := b.isLt; omega⟩
      | ⟨2, _⟩ => exact ⟨by show 0 ≤ 0 + (j.val : ℤ); omega, by show 0 + (j.val : ℤ) < (512 : ℕ); have := j.isLt; omega⟩

/-! ## The sorts -/

/-- An index moved along the last axis. -/
theorem along_ix3 (a : Fin 32) (b : Fin 16) (j k : Fin 512) : (ix3 a b j : S32x16x512.Idx).along (2 : Fin 3) k = ix3 a b k := by
  funext c
  match c with
  | ⟨0, _⟩ => rfl
  | ⟨1, _⟩ => rfl
  | ⟨2, _⟩ => rfl

/-- The second result of a sort along the last axis, at an index. -/
theorem sort2_apply {α β : Type} (cmp : α × β → α × β → BitVec 1) (x : S32x16x512.Idx → α) (y : S32x16x512.Idx → β)
    (a : Fin 32) (b : Fin 16) (j : Fin 512) :
    (Host.sort2 S32x16x512 2 cmp x y).2 (ix3 a b j)
      = y (ix3 a b (sortedFrom (fun k k' : Fin 512 => cmp (x (ix3 a b k), y (ix3 a b k)) (x (ix3 a b k'), y (ix3 a b k')) == 1#1) j)) := by
  unfold Host.sort2
  rw [dif_pos (show 2 < S32x16x512.rank by decide)]
  show y ((ix3 a b j : S32x16x512.Idx).along (2 : Fin 3) (sortedFrom (fun k k' : Fin 512 =>
    cmp (x ((ix3 a b j : S32x16x512.Idx).along (2 : Fin 3) k), y ((ix3 a b j : S32x16x512.Idx).along (2 : Fin 3) k))
      (x ((ix3 a b j : S32x16x512.Idx).along (2 : Fin 3) k'), y ((ix3 a b j : S32x16x512.Idx).along (2 : Fin 3) k')) == 1#1) j)) = _
  simp only [along_ix3]
  exact congrArg y (along_ix3 _ _ _ _)

/-- The first sort's comparison of two draws is the comparison of their numbers. -/
theorem comparator_f (p q : ℕ) (u v : BitVec 32) :
    (comparator_f32_i32_d2 (F := Ideal) ((((p : ℝ) / 2 ^ 23 : ℝ) : EReal), u) ((((q : ℝ) / 2 ^ 23 : ℝ) : EReal), v) == 1#1) = decide (p < q) := by
  have z : Ideal.ofBits .f32 0x00000000#32 = (0 : EReal) := Ideal.ofBits_zero_f32
  have step : ∀ x : EReal, Scalar.select (Ideal.cmp .une x x) (Ideal.ofBits .f32 0x7FC00000#32)
      (Scalar.select (Ideal.cmp .oeq x (Ideal.ofBits .f32 0x00000000#32)) (Ideal.ofBits .f32 0x00000000#32) x) = x := by
    intro x
    rw [z]
    by_cases h : x = 0 <;> simp [Ideal.cmp, Scalar.select, h]
  show (Ideal.cmp .olt (Scalar.select _ _ (Scalar.select _ _ _)) (Scalar.select _ _ (Scalar.select _ _ _)) == 1#1) = _
  refine (congrArg₂ (fun x y : EReal => Ideal.cmp .olt x y == 1#1) (step _) (step _)).trans ?_
  have e : ((((p : ℝ) / 2 ^ 23 : ℝ) : EReal) < (((q : ℝ) / 2 ^ 23 : ℝ) : EReal)) ↔ p < q := by
    rw [EReal.coe_lt_coe_iff, div_lt_div_iff_of_pos_right (by norm_num), Nat.cast_lt]
  simp only [Ideal.cmp, e]
  by_cases h : p < q <;> simp [h]

/-- A small number as a signed word. -/
theorem toInt_small (n : ℕ) (h : n < 512) : (BitVec.ofNat 32 n).toInt = n := by
  rw [BitVec.toInt_eq_toNat_of_lt, BitVec.toNat_ofNat, Nat.mod_eq_of_lt (by omega)]
  rw [BitVec.toNat_ofNat, Nat.mod_eq_of_lt (by omega)]; omega

/-- The second sort's comparison of two positions. -/
theorem comparator_i (p q : Fin 512) (u v : BitVec 32) :
    (comparator_i32_i32_d2 (BitVec.ofNat 32 p.val, u) (BitVec.ofNat 32 q.val, v) == 1#1) = decide (p.val < q.val) := by
  show (BitVec.ofBool (BitVec.slt (BitVec.ofNat 32 p.val) (BitVec.ofNat 32 q.val)) == 1#1) = _
  unfold BitVec.slt
  rw [toInt_small _ p.isLt, toInt_small _ q.isLt]
  by_cases h : p.val < q.val <;> simp [h]

/-- Positions along the last axis. -/
abbrev places : IVec S32x16x512 32 := iotaInDim S32x16x512 32 2

/-- The positions sorted by the draws, sorted in turn, are the draws' ranks. -/
theorem restore_apply (x : S32x16x512.Idx → EReal) (k : S32x16x512.Idx → ℕ) (hx : ∀ i, x i = (((k i : ℝ) / 2 ^ 23 : ℝ) : EReal))
    (a : Fin 32) (b : Fin 16) (j : Fin 512) :
    (Host.sort2 S32x16x512 2 comparator_i32_i32_d2 ((Host.sort2 S32x16x512 2 (comparator_f32_i32_d2 (F := Ideal)) x places).2) places).2 (ix3 a b j)
      = BitVec.ofNat 32 (rank (fun j => k (ix3 a b j)) j) := by
  have h1 : ∀ j', (Host.sort2 S32x16x512 2 (comparator_f32_i32_d2 (F := Ideal)) x places).2 (ix3 a b j')
      = BitVec.ofNat 32 (sortedFrom (fun p q : Fin 512 => decide (k (ix3 a b p) < k (ix3 a b q))) j').val := by
    intro j'
    refine (sort2_apply _ x places a b j').trans ?_
    have e : (fun p q : Fin 512 => comparator_f32_i32_d2 (F := Ideal) (x (ix3 a b p), places (ix3 a b p)) (x (ix3 a b q), places (ix3 a b q)) == 1#1)
        = fun p q : Fin 512 => decide (k (ix3 a b p) < k (ix3 a b q)) := by
      funext p q
      rw [hx, hx]
      exact comparator_f _ _ _ _
    exact congrArg (fun R => places (ix3 a b (sortedFrom R j'))) e
  refine (sort2_apply _ _ places a b j).trans ?_
  refine congrArg (BitVec.ofNat 32) ?_
  refine sort_sort (fun j => k (ix3 a b j)) (fun p q : Fin 512 => decide (k (ix3 a b p) < k (ix3 a b q))) _ (fun _ _ => rfl) (fun p q => ?_) j
  rw [h1, h1]
  exact comparator_i _ _ _ _

/-! ## The gather along the last axis -/

/-- The gather's dimension numbers. -/
abbrev pick := gather_S32x16x512_S32x16x512x1_S32x16x512_n_2_01_01_2_3_111

/-- The gather at an index, where the position it reads is `r`. -/
theorem pick_apply {α : Type} (x : S32x16x512.Idx → α) (idx : IVec S32x16x512x1 32) (a : Fin 32) (b : Fin 16) (j r : Fin 512)
    (h : idx (ix4 a b j (0 : Fin 1)) = BitVec.ofNat 32 r.val) : Host.gather pick x idx (ix3 a b j) = x (ix3 a b r) := by
  unfold Host.gather
  refine congrArg x (funext fun c => Fin.ext ?_)
  show pick.start (ix3 a b j) idx c + pick.batchCoord (ix3 a b j) c + pick.offCoord (ix3 a b j) c = _
  match c with
  | ⟨0, _⟩ => show 0 + a.val + 0 = a.val; omega
  | ⟨1, _⟩ => show 0 + b.val + 0 = b.val; omega
  | ⟨2, _⟩ =>
    have hs : pick.start (ix3 a b j) idx (2 : Fin 3) = r.val := by
      unfold GatherDims.start
      rw [dif_pos (show (2 : Fin 3) ∈ pick.startIndexMap from List.mem_singleton.mpr rfl)]
      have hsi : pick.siIdx (ix3 a b j) ⟨List.idxOf (2 : Fin 3) pick.startIndexMap, List.idxOf_lt_length_iff.2 (List.mem_singleton.mpr rfl)⟩
          = ix4 a b j (0 : Fin 1) := by
        funext c; refine Fin.ext ?_
        match c with
        | ⟨0, _⟩ => rfl
        | ⟨1, _⟩ => rfl
        | ⟨2, _⟩ => rfl
        | ⟨3, _⟩ => rfl
      rw [hsi, h, toInt_small _ r.isLt]
      show min (r.val : ℤ).toNat (512 - 1) = r.val
      have := r.isLt
      omega
    show pick.start (ix3 a b j) idx (2 : Fin 3) + 0 + 0 = r.val
    rw [hs]; rfl

/-- The positions as the gather takes them: negative ones wrapped, with a last axis of one. -/
def wrapped (p : IVec S32x16x512 32) : IVec S32x16x512x1 32 :=
  shapeCast S32x16x512x1 (select (cmpi .slt p (broadcastInDim S32x16x512 ![] bcast_S_S32x16x512 (constantI S_ 32 0#32)))
    (addi p (broadcastInDim S32x16x512 ![] bcast_S_S32x16x512 (constantI S_ 32 512#32))) p) shapeCasts_S32x16x512_S32x16x512x1

/-- Whether each position is in range. -/
def inRange (v : IVec S32x16x512x1 32) : IVec S32x16x512 1 :=
  Host.reduce IntOp.andi (andi (cmpi .sge v (broadcastInDim S32x16x512x1 ![] bcast_S_S32x16x512x1 (constantI S_ 32 0#32)))
    (cmpi .sle v (broadcastInDim S32x16x512x1 ![0, 1, 2, 3] bcast_S1x1x1x1_S32x16x512x1_0_1_2_3
      (broadcastInDim S1x1x1x1 ![3] bcast_S1_S1x1x1x1_3 (constantI S1 32 511#32)))))
    (constantI S_ 1 1#1) reducesTo_S32x16x512x1_S32x16x512_d3 h_S_

/-- The gather with its two corrections. -/
def taken (x : FVec Ideal S32x16x512 .f32) (p : IVec S32x16x512 32) : FVec Ideal S32x16x512 .f32 :=
  select (inRange (wrapped p)) (Host.gather pick x (wrapped p))
    (broadcastInDim S32x16x512 ![] bcast_S_S32x16x512 (constant S_ .f32 0x7FC00000#32))

/-- A choice whose condition holds. -/
theorem select_one {α : Type} {s : Shape} (c : IVec s 1) (u v : s.Idx → α) (i : s.Idx) (h : c i = 1#1) : select c u v i = u i := by
  show Scalar.select (c i) (u i) (v i) = _
  rw [h]; rfl

section Taken
variable (p : IVec S32x16x512 32) (r : S32x16x512.Idx → Fin 512) (hp : ∀ i, p i = BitVec.ofNat 32 (r i).val)

include hp in
/-- A position in range is not wrapped. -/
theorem not_wrapped (i : S32x16x512.Idx) :
    select (cmpi .slt p (broadcastInDim S32x16x512 ![] bcast_S_S32x16x512 (constantI S_ 32 0#32)))
      (addi p (broadcastInDim S32x16x512 ![] bcast_S_S32x16x512 (constantI S_ 32 512#32))) p i = BitVec.ofNat 32 (r i).val := by
  show Scalar.select (BitVec.ofBool (BitVec.slt (p i) 0#32)) _ (p i) = _
  have h : BitVec.slt (p i) 0#32 = false := by
    rw [hp]; unfold BitVec.slt
    rw [toInt_small _ (r i).isLt]
    exact decide_eq_false (by show ¬ ((r i).val : ℤ) < 0; omega)
  rw [h]
  exact hp i

include hp in
/-- The index with negative ones wrapped: a rank is none, so it stays. -/
theorem wrapped_apply (a : Fin 32) (b : Fin 16) (j : Fin 512) : wrapped p (ix4 a b j (0 : Fin 1)) = BitVec.ofNat 32 (r (ix3 a b j)).val := by
  refine (shapeCast_apply _ _ _ (ix3 a b j) ?_).trans (not_wrapped p r hp _)
  show ((⟨3, ![32, 16, 512]⟩ : Shape).rowMajor (ix3 a b j)).val = ((⟨4, ![32, 16, 512, 1]⟩ : Shape).rowMajor (ix4 a b j (0 : Fin 1))).val
  rw [Shape.rowMajor_val_three, Shape.rowMajor_val_four]
  show (a.val * 16 + b.val) * 512 + j.val = ((a.val * 16 + b.val) * 512 + j.val) * 1 + 0
  omega

include hp in
/-- Every position is in range. -/
theorem inRange_apply (i : S32x16x512.Idx) : inRange (wrapped p) i = 1#1 := by
  refine Host.reduce_andi_one _ _ _ _ _ rfl fun i' => ?_
  show IntOp.andi (BitVec.ofBool (BitVec.sle 0#32 (wrapped p i'))) (BitVec.ofBool (BitVec.sle (wrapped p i') 511#32)) = 1#1
  obtain ⟨i₀, h⟩ : ∃ i₀, wrapped p i' = BitVec.ofNat 32 (r i₀).val := ⟨_, not_wrapped p r hp _⟩
  rw [h]
  unfold BitVec.sle
  rw [toInt_small _ (r i₀).isLt]
  have h1 : decide ((0#32 : BitVec 32).toInt ≤ ((r i₀).val : ℤ)) = true := decide_eq_true (by show (0 : ℤ) ≤ _; omega)
  have h2 : decide (((r i₀).val : ℤ) ≤ (511#32 : BitVec 32).toInt) = true :=
    decide_eq_true (by show _ ≤ (511 : ℤ); have := (r i₀).isLt; omega)
  rw [h1, h2]
  rfl

include hp in
/-- The gather with its corrections, of positions in range, reads the operand there. -/
theorem taken_apply (x : FVec Ideal S32x16x512 .f32) (a : Fin 32) (b : Fin 16) (j : Fin 512) :
    taken x p (ix3 a b j) = x (ix3 a b (r (ix3 a b j))) := by
  unfold taken
  exact (select_one _ _ _ _ (inRange_apply p r hp (ix3 a b j))).trans (pick_apply x _ a b j _ (wrapped_apply p r hp a b j))

end Taken

end Cert.ReferenceIdeal.Hand

end
-- ==== Proof.RefValue.lean ====
/-
  The reference's two results as functions of the argument and of the noise's rank along the last axis.
-/
module

public import proofs.«01_k».proof.Proof.RefOps
public import proofs.«01_k».proof.Proof.RefRun
public import proofs.«01_k».proof.Proof.Noise

@[expose] public section

set_option maxRecDepth 16384

noncomputable section

namespace Cert.ReferenceIdeal.Hand

open Cert.ReferenceIdeal Cert.Order
open Idealize.ShloMosaic Idealize.ShloMosaic.ValueIdx Idealize.ShloMosaic.StableHlo
open Facts₀ Facts

variable [Facts]

/-- Contents of the device's buffers. -/
abbrev Vals := Valuation τ sig (Elt Ideal)

/-- The line after the noise: the mask's, -/
def lineMask : List (HloOp τ sig (Elt Ideal)) := (ops.drop 279).take 7
/-- the two sorts', -/
def lineSort : List (HloOp τ sig (Elt Ideal)) := (ops.drop 286).take 6
/-- the gather's positions', -/
def lineWrap : List (HloOp τ sig (Elt Ideal)) := (ops.drop 292).take 8
/-- their check's, -/
def lineCheck : List (HloOp τ sig (Elt Ideal)) := (ops.drop 300).take 10
/-- the gather's own, -/
def linePick : List (HloOp τ sig (Elt Ideal)) := (ops.drop 310).take 4
/-- and the choice's. -/
def lineEnd : List (HloOp τ sig (Elt Ideal)) := (ops.drop 314).take 13

set_option maxHeartbeats 2000000 in
/-- The mask before it is shuffled: zero below 256, one from there on. -/
theorem mask_before (V : Vals) (a : Fin 32) (b : Fin 16) (j : Fin 512) :
    (after lineMask V (Proc.devRef .tc main_v11) (ix3 a b j) : EReal) = if j.val < 256 then (0 : EReal) else (1 : EReal) := by
  unfold lineMask
  after_reads_simp
  refine (front_apply _ (Ideal.ofBits .f32 0x00000000#32) a b j).trans ?_
  refine if_congr Iff.rfl Ideal.ofBits_zero_f32 ?_
  exact Ideal.ofBits_one_f32

set_option maxHeartbeats 2000000 in
theorem mask_keeps_noise (V : Vals) : after lineMask V (Proc.devRef .tc main_v7) = V (Proc.devRef .tc main_v7) := by
  unfold lineMask; after_reads_simp

set_option maxHeartbeats 2000000 in
/-- The two sorts. -/
theorem sort_line (V : Vals) : after lineSort V (Proc.devRef .tc main_v13)
    = (Host.sort2 S32x16x512 2 comparator_i32_i32_d2
        ((Host.sort2 S32x16x512 2 (comparator_f32_i32_d2 (F := Ideal)) (V (Proc.devRef .tc main_v7)) places).2) places).2 := by
  unfold lineSort
  after_reads_simp
  try simp only [TRef.ofBuf_toBuf]
  rfl

set_option maxHeartbeats 2000000 in
theorem sort_keeps_mask (V : Vals) : after lineSort V (Proc.devRef .tc main_v11) = V (Proc.devRef .tc main_v11) := by
  unfold lineSort; after_reads_simp

set_option maxHeartbeats 2000000 in
/-- The gather's positions. -/
theorem wrap_line (V : Vals) : after lineWrap V (Proc.devRef .tc main_call3_v5) = wrapped (V (Proc.devRef .tc main_v13)) := by
  unfold lineWrap
  after_reads_simp
  try simp only [TRef.ofBuf_toBuf]
  rfl

attribute [local irreducible] Host.reduce in
set_option maxHeartbeats 2000000 in
/-- Their check. -/
theorem check_line (V : Vals) : after lineCheck V (Proc.devRef .tc main_call3_v12) = inRange (V (Proc.devRef .tc main_call3_v5)) := by
  unfold lineCheck
  after_reads_simp
  try simp only [TRef.ofBuf_toBuf]
  rfl

set_option maxHeartbeats 2000000 in
/-- The choice between the gather and its filling. -/
theorem pick_line (V : Vals) : after linePick V (Proc.devRef .tc main_v14)
    = select (V (Proc.devRef .tc main_call3_v12)) (Host.gather pick (V (Proc.devRef .tc main_v11)) (V (Proc.devRef .tc main_call3_v5)))
        (broadcastInDim S32x16x512 ![] bcast_S_S32x16x512 (constant (F := Ideal) S_ .f32 0x7FC00000#32)) := by
  unfold linePick
  after_reads_simp
  try simp only [TRef.ofBuf_toBuf]
  rfl

set_option maxHeartbeats 2000000 in
theorem wrap_keeps (V : Vals) : after lineWrap V (Proc.devRef .tc main_v11) = V (Proc.devRef .tc main_v11) := by
  unfold lineWrap; after_reads_simp

set_option maxHeartbeats 2000000 in
theorem check_keeps (V : Vals) : after lineCheck V (Proc.devRef .tc main_v11) = V (Proc.devRef .tc main_v11)
    ∧ after lineCheck V (Proc.devRef .tc main_call3_v5) = V (Proc.devRef .tc main_call3_v5) := by
  constructor <;> (unfold lineCheck; after_reads_simp)

/-- The gather with its corrections. -/
theorem take_line (V : Vals) : after linePick (after lineCheck (after lineWrap V)) (Proc.devRef .tc main_v14)
    = taken (V (Proc.devRef .tc main_v11)) (V (Proc.devRef .tc main_v13)) := by
  rw [pick_line, check_line, (check_keeps _).1, (check_keeps _).2, wrap_keeps, wrap_line]
  rfl

set_option maxHeartbeats 2000000 in
/-- The first result chooses zero where the mask differs from zero, and the argument elsewhere. -/
theorem end_line0 (V : Vals) (a : Fin 32) (b : Fin 16) (j : Fin 512) (d : Fin 64) :
    (after lineEnd V (Proc.devRef .tc main_v20) (ix4 a b j d) : EReal)
      = Scalar.select (Ideal.cmp .une (V (Proc.devRef .tc main_v14) (ix3 a b j)) (Ideal.ofBits .f32 0x00000000#32))
          (Ideal.ofBits .f32 0x00000000#32) (V (Proc.devRef .tc main_arg0) (ix4 a b j d)) := by
  unfold lineEnd
  after_reads_simp
  try simp only [TRef.ofBuf_toBuf]
  refine congrArg (fun x : EReal => Scalar.select (Ideal.cmp .une x (Ideal.ofBits .f32 0x00000000#32)) (Ideal.ofBits .f32 0x00000000#32)
    (V (Proc.devRef .tc main_arg0) (ix4 a b j d) : EReal)) ?_
  refine (broadcastInDim_apply _ _ _ _ (ix4 a b j (0 : Fin 1)) (fun c => by fin_cases c <;> rfl)).trans ?_
  exact broadcastInDim_apply _ _ _ _ (ix3 a b j) (fun c => by fin_cases c <;> rfl)

set_option maxHeartbeats 2000000 in
/-- The second result asks of the mask whether it differs from zero. -/
theorem end_line1 (V : Vals) (i : S32x16x512.Idx) :
    after lineEnd V (Proc.devRef .tc main_v23) i = Ideal.cmp .une (V (Proc.devRef .tc main_v14) i) (Ideal.ofBits .f32 0x00000000#32) := by
  unfold lineEnd
  after_reads_simp
  try simp only [TRef.ofBuf_toBuf]
  rfl

/-- The line as its parts. -/
theorem ops_parts (W : Vals) : after ops W = after lineEnd (after linePick (after lineCheck (after lineWrap (after lineSort (after lineMask (after (ops.take 279) W)))))) := by
  unfold lineEnd linePick lineCheck lineWrap lineSort lineMask
  rw [← Noise.after_cut, ← Noise.after_cut, ← Noise.after_cut, ← Noise.after_cut, ← Noise.after_cut, ← Noise.after_cut]
  rfl

set_option maxHeartbeats 4000000 in
/-- The line leaves the argument. -/
theorem ops_arg (W : Vals) : after ops W (Proc.devRef .tc main_arg0) = W (Proc.devRef .tc main_arg0) := by
  after_reads_simp

set_option maxHeartbeats 4000000 in
theorem parts_arg (W : Vals) :
    after linePick (after lineCheck (after lineWrap (after lineSort (after lineMask (after (ops.take 279) W))))) (Proc.devRef .tc main_arg0) = W (Proc.devRef .tc main_arg0) := by
  unfold linePick lineCheck lineWrap lineSort lineMask
  rw [← Noise.after_cut, ← Noise.after_cut, ← Noise.after_cut, ← Noise.after_cut, ← Noise.after_cut]
  after_reads_simp

section Results
variable (W : Vals) (k : S32x16x512.Idx → ℕ)
  (hn : ∀ i, (after (ops.take 279) W (Proc.devRef .tc main_v7) i : EReal) = (((k i : ℝ) / 2 ^ 23 : ℝ) : EReal))

/-- The keys of one row of the noise. -/
def keys (a : Fin 32) (b : Fin 16) : Fin 512 → ℕ := fun j => k (ix3 a b j)

/-- A rank is below the row's length. -/
theorem rank_lt {n : ℕ} (key : Fin n → ℕ) (i : Fin n) : rank key i < n := by
  have : (before key i).card < (Finset.univ : Finset (Fin n)).card := Finset.card_lt_card
    ⟨Finset.subset_univ _, fun h => by
      have := h (Finset.mem_univ i)
      unfold before at this
      rw [Finset.mem_filter] at this
      rcases this.2 with h | h
      · exact lt_irrefl _ h
      · exact lt_irrefl _ h.2⟩
  rwa [Finset.card_univ, Fintype.card_fin] at this

include hn in
/-- The mask after it is shuffled: zero where the rank is below 256, one elsewhere. -/
theorem mask_after (a : Fin 32) (b : Fin 16) (j : Fin 512) :
    (after linePick (after lineCheck (after lineWrap (after lineSort (after lineMask (after (ops.take 279) W))))) (Proc.devRef .tc main_v14) (ix3 a b j) : EReal)
      = if rank (keys k a b) j < 256 then (0 : EReal) else (1 : EReal) := by
  refine (congrFun (take_line _) _).trans ?_
  refine (taken_apply _ (fun i => ⟨rank (keys k (i 0) (i 1)) (i 2), rank_lt _ _⟩) (fun i => ?_) _ a b j).trans ?_
  · have hi : i = ix3 (i 0) (i 1) (i 2) := by
      funext c
      match c with
      | ⟨0, _⟩ => rfl
      | ⟨1, _⟩ => rfl
      | ⟨2, _⟩ => rfl
    refine (congrFun (sort_line _) _).trans ?_
    rw [hi]
    refine restore_apply _ k (fun i => ?_) (i 0) (i 1) (i 2)
    exact (congrFun (mask_keeps_noise _) _).trans (hn i)
  · exact (congrFun (sort_keeps_mask _) _).trans (mask_before _ a b _)

include hn in
/-- The first result: the argument where the rank is below 256, zero elsewhere. -/
theorem result0 (a : Fin 32) (b : Fin 16) (j : Fin 512) (d : Fin 64) :
    (after ops W (Proc.devRef .tc main_v20) (ix4 a b j d) : EReal)
      = if rank (keys k a b) j < 256 then W (Proc.devRef .tc main_arg0) (ix4 a b j d) else (0 : EReal) := by
  refine (congrFun (congrFun (ops_parts W) _) _).trans ((end_line0 _ a b j d).trans ?_)
  refine (congrArg₂ (fun x y : EReal => Scalar.select (Ideal.cmp .une x (Ideal.ofBits .f32 0x00000000#32)) (Ideal.ofBits .f32 0x00000000#32) y)
    (mask_after W k hn a b j) (congrFun (parts_arg W) _)).trans ?_
  have z : Ideal.ofBits .f32 0x00000000#32 = (0 : EReal) := Ideal.ofBits_zero_f32
  by_cases h : rank (keys k a b) j < 256
  · rw [if_pos h, if_pos h, z]; simp [Ideal.cmp, Scalar.select]
  · rw [if_neg h, if_neg h, z]; simp [Ideal.cmp, Scalar.select]

include hn in
/-- The second result: one where the rank is at least 256. -/
theorem result1 (a : Fin 32) (b : Fin 16) (j : Fin 512) :
    after ops W (Proc.devRef .tc main_v23) (ix3 a b j) = if rank (keys k a b) j < 256 then 0#1 else 1#1 := by
  refine (congrFun (congrFun (ops_parts W) _) _).trans ((end_line1 _ _).trans ?_)
  refine (congrArg (fun x : EReal => Ideal.cmp .une x (Ideal.ofBits .f32 0x00000000#32)) (mask_after W k hn a b j)).trans ?_
  have z : Ideal.ofBits .f32 0x00000000#32 = (0 : EReal) := Ideal.ofBits_zero_f32
  by_cases h : rank (keys k a b) j < 256
  · rw [if_pos h, if_pos h, z]; simp [Ideal.cmp]
  · rw [if_neg h, if_neg h, z]; simp [Ideal.cmp]

end Results

end Cert.ReferenceIdeal.Hand

end
-- ==== Proof.lean ====
/-
  The certificate: the kernel at its machine words and at the extended reals, and the reference at the extended reals, run
  and leave their argument and the counters as they found them; and the last two end with equal results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.LaunchBits
public import proofs.«01_k».proof.Proof.KernelResult
public import proofs.«01_k».proof.Proof.RefValue

@[expose] public section

set_option maxRecDepth 16384

noncomputable section

namespace Cert.Proof

open Idealize.ShloMosaic Idealize.ShloMosaic.ValueIdx Idealize.ShloMosaic.StableHlo Idealize.SL.Sem

/-- An index of the argument's shape by its coordinates. -/
theorem split4 {n0 n1 n2 n3 : ℕ} (i : (⟨4, ![n0, n1, n2, n3]⟩ : Shape).Idx) : i = ix4 (i 0) (i 1) (i 2) (i 3) := by
  funext c
  match c with
  | ⟨0, _⟩ => rfl
  | ⟨1, _⟩ => rfl
  | ⟨2, _⟩ => rfl
  | ⟨3, _⟩ => rfl

/-- An index of the mask's shape by its coordinates. -/
theorem split3 {n0 n1 n2 : ℕ} (i : (⟨3, ![n0, n1, n2]⟩ : Shape).Idx) : i = ix3 (i 0) (i 1) (i 2) := by
  funext c
  match c with
  | ⟨0, _⟩ => rfl
  | ⟨1, _⟩ => rfl
  | ⟨2, _⟩ => rfl

/-- The reference's run. -/
theorem frame_reference [Cert.ReferenceIdeal.Facts] : Cert.quiescent_ReferenceIdeal := fun m ρ _ =>
  (θ_run _ _ _).mono (fun _ h => ⟨fun c => (h.1 c Cert.ReferenceIdeal.main_arg0).trans (Cert.ReferenceIdeal.Hand.ops_arg _), h.2⟩)
    (Cert.ReferenceIdeal.Hand.run (F := Ideal) m ρ)

section Value
open Cert.KernelIdeal (nD τ sig)

variable [Cert.ReferenceIdeal.Facts]
  (m : (ℓ : Loc nD τ sig) → Buf (Elt Ideal) ℓ) (c : Dev nD) (W : Cert.ReferenceIdeal.Hand.Vals)
  (h : W (Proc.devRef .tc Cert.ReferenceIdeal.main_arg0) = m ((c.tc : Thread nD τ).loc Cert.KernelIdeal.main_arg0))

/-- The reference's noise is the kernel's. -/
theorem noise_same (k : Cert.KernelIdeal.S32x16x512.Idx → ℕ)
    (hn : ∀ i, Cert.KernelIdeal.Hand.noise (Cert.KernelIdeal.Hand.start m c) i = (((k i : ℝ) / 2 ^ 23 : ℝ) : EReal))
    (i : Cert.ReferenceIdeal.S32x16x512.Idx) :
    (after (Cert.ReferenceIdeal.Hand.ops.take 279) W (Proc.devRef .tc Cert.ReferenceIdeal.main_v7) i : EReal) = (((k i : ℝ) / 2 ^ 23 : ℝ) : EReal) :=
  (congrFun (Cert.Noise.noise_eq (F := Ideal) (Cert.KernelIdeal.Hand.start m c) W) i).symm.trans (hn i)

include h in
/-- The first results are equal. -/
theorem equal0 : after Cert.ReferenceIdeal.Hand.ops W (Proc.devRef .tc Cert.ReferenceIdeal.main_v20)
    = after Cert.KernelIdeal.Gen.hostOps1 (Cert.KernelIdeal.Hand.exitV m c) (Proc.devRef .tc Cert.KernelIdeal.main_v14) := by
  obtain ⟨k, hk, hn⟩ := Cert.KernelIdeal.Hand.noise_nat (Cert.KernelIdeal.Hand.start m c)
  funext i
  obtain ⟨a, b, j, d, rfl⟩ : ∃ (a : Fin 32) (b : Fin 16) (j : Fin 512) (d : Fin 64), i = ix4 a b j d := ⟨_, _, _, _, split4 i⟩
  refine (Cert.ReferenceIdeal.Hand.result0 W k (noise_same m c W k hn) a b j d).trans ?_
  refine Eq.trans ?_ (Cert.KernelIdeal.Hand.result0 m c k hk hn a b j d).symm
  exact if_congr Iff.rfl (congrFun h _) rfl

/-- The second results are equal. -/
theorem equal1 : after Cert.ReferenceIdeal.Hand.ops W (Proc.devRef .tc Cert.ReferenceIdeal.main_v23)
    = after Cert.KernelIdeal.Gen.hostOps1 (Cert.KernelIdeal.Hand.exitV m c) (Proc.devRef .tc Cert.KernelIdeal.main_v18) := by
  obtain ⟨k, hk, hn⟩ := Cert.KernelIdeal.Hand.noise_nat (Cert.KernelIdeal.Hand.start m c)
  funext i
  obtain ⟨a, b, j, rfl⟩ : ∃ (a : Fin 32) (b : Fin 16) (j : Fin 512), i = ix3 a b j := ⟨_, _, _, split3 i⟩
  refine (Cert.ReferenceIdeal.Hand.result1 W k (noise_same m c W k hn) a b j).trans ?_
  exact (Cert.KernelIdeal.Hand.result1 m c k hk hn a b j).symm

end Value

/-- The kernel and the reference at the extended reals end with equal results. -/
theorem algebraic [Cert.ReferenceIdeal.Facts] :
    Cert.algebraic_KernelIdeal_ReferenceIdeal (hKernelIdeal := Cert.KernelIdeal.Gen.facts) := fun m g m' g' _ hm =>
  ⟨fun c => after Cert.KernelIdeal.Gen.hostOps1 (Cert.KernelIdeal.Hand.exitV m c) (Proc.devRef .tc Cert.KernelIdeal.main_v14),
    fun c => after Cert.KernelIdeal.Gen.hostOps1 (Cert.KernelIdeal.Hand.exitV m c) (Proc.devRef .tc Cert.KernelIdeal.main_v18),
    (θ_run _ _ _).mono (fun _ h c =>
      ⟨h.1 c Cert.KernelIdeal.main_v14 (Pipeline.mem_restRefs_of Cert.KernelIdeal.main_v14 (by decide) (by decide)),
        h.1 c Cert.KernelIdeal.main_v18 (Pipeline.mem_restRefs_of Cert.KernelIdeal.main_v18 (by decide) (by decide)),
        (h.1 c Cert.KernelIdeal.main_arg0 (Pipeline.mem_restRefs_of Cert.KernelIdeal.main_arg0 (by decide) (by decide))).trans
          (Cert.KernelIdeal.Hand.arg_kept m c)⟩) (Cert.KernelIdeal.Hand.run_main m g),
    (θ_run _ _ _).mono (fun _ h c =>
      ⟨(h.1 c Cert.ReferenceIdeal.main_v20).trans (equal0 m c _ (hm c)),
        (h.1 c Cert.ReferenceIdeal.main_v23).trans (equal1 m c _),
        (h.1 c Cert.ReferenceIdeal.main_arg0).trans (Cert.ReferenceIdeal.Hand.ops_arg _)⟩)
      (Cert.ReferenceIdeal.Hand.run (F := Ideal) m' g')⟩

/-- The five claims. -/
theorem claim : Cert.Claim := ⟨Cert.Kernel.Gen.facts, Cert.KernelIdeal.Gen.facts, Cert.ReferenceIdeal.Gen.facts,
  fun m ρ _ => Cert.Kernel.Hand.frame_main (F := Bits) m ρ,
  fun m ρ _ => Cert.KernelIdeal.Hand.frame_main (F := Ideal) m ρ,
  @frame_reference Cert.ReferenceIdeal.Gen.facts,
  trivial,
  @algebraic Cert.ReferenceIdeal.Gen.facts⟩

end Cert.Proof

end
